-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S65536x128 : Shape := ⟨2, ![65536, 128]⟩
abbrev S1000000 : Shape := ⟨1, ![1000000]⟩
abbrev S4096 : Shape := ⟨1, ![4096]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096 32) (main_v14 : IVec S_ 1) (main_c_7 : IVec S_ 32) : IVec S_ 1 :=
  let main_v15 : IVec S4096 32 := broadcastInDim S4096 ![] bcast_S_S4096 main_c_7
  let main_v16 : IVec S4096 1 := cmpi .sge main_arg3 main_v15
  let main_c_8 : IVec S_ 1 := constantI S_ 1 1#1
  let main_v17 : IVec S_ 1 := (fun x v => Host.reduce IntOp.andi x v reducesTo_S4096_S_d0 h_S_) main_v16 main_c_8
  let main_v18 : IVec S_ 1 := andi main_v14 main_v17
  let main_c_9 : IVec S_ 32 := constantI S_ 32 1000000#32
  let main_v19 : IVec S4096 32 := broadcastInDim S4096 ![] bcast_S_S4096 main_c_9
  let main_v20 : IVec S4096 1 := cmpi .slt main_arg3 main_v19
  let main_c_10 : IVec S_ 1 := constantI S_ 1 1#1
  let main_v21 : IVec S_ 1 := (fun x v => Host.reduce IntOp.andi x v reducesTo_S4096_S_d0 h_S_) main_v20 main_c_10
  let main_v22 : IVec S_ 1 := andi main_v18 main_v21
  main_v22

def fn {F : FTy → Type} [FloatOps F] (main_arg0 : FVec F S65536x128 .f32) (main_arg1 : IVec S1000000 32) (main_arg2 : IVec S4096 32) (main_arg3 : IVec S4096 32) : IVec S_ 1 :=
  let main_c : IVec S_ 32 := constantI S_ 32 0#32
  let main_v0 : IVec S1000000 32 := broadcastInDim S1000000 ![] bcast_S_S1000000 main_c
  let main_v1 : IVec S1000000 1 := cmpi .sge main_arg1 main_v0
  let main_c_0 : IVec S_ 1 := constantI S_ 1 1#1
  let main_v2 : IVec S_ 1 := (fun x v => Host.reduce IntOp.andi x v reducesTo_S1000000_S_d0 h_S_) main_v1 main_c_0
  let main_c_1 : IVec S_ 32 := constantI S_ 32 65536#32
  let main_v3 : IVec S1000000 32 := broadcastInDim S1000000 ![] bcast_S_S1000000 main_c_1
  let main_v4 : IVec S1000000 1 := cmpi .slt main_arg1 main_v3
  let main_c_2 : IVec S_ 1 := constantI S_ 1 1#1
  let main_v5 : IVec S_ 1 := (fun x v => Host.reduce IntOp.andi x v reducesTo_S1000000_S_d0 h_S_) main_v4 main_c_2
  let main_v6 : IVec S_ 1 := andi main_v2 main_v5
  let main_c_3 : IVec S_ 32 := constantI S_ 32 0#32
  let main_v7 : IVec S4096 32 := broadcastInDim S4096 ![] bcast_S_S4096 main_c_3
  let main_v8 : IVec S4096 1 := cmpi .sge main_arg2 main_v7
  let main_c_4 : IVec S_ 1 := constantI S_ 1 1#1
  let main_v9 : IVec S_ 1 := (fun x v => Host.reduce IntOp.andi x v reducesTo_S4096_S_d0 h_S_) main_v8 main_c_4
  let main_v10 : IVec S_ 1 := andi main_v6 main_v9
  let main_c_5 : IVec S_ 32 := constantI S_ 32 1000000#32
  let main_v11 : IVec S4096 32 := broadcastInDim S4096 ![] bcast_S_S4096 main_c_5
  let main_v12 : IVec S4096 1 := cmpi .slt main_arg2 main_v11
  let main_c_6 : IVec S_ 1 := constantI S_ 1 1#1
  let main_v13 : IVec S_ 1 := (fun x v => Host.reduce IntOp.andi x v reducesTo_S4096_S_d0 h_S_) main_v12 main_c_6
  let main_v14 : IVec S_ 1 := andi main_v10 main_v13
  let main_c_7 : IVec S_ 32 := constantI S_ 32 0#32
  fn_part1 (F := F) main_arg3 main_v14 main_c_7
-- ==== Kernel.lean ====
abbrev S65536x128 : Shape := ⟨2, ![65536, 128]⟩
abbrev S1000000 : Shape := ⟨1, ![1000000]⟩
abbrev S4096 : Shape := ⟨1, ![4096]⟩
abbrev S4096x128 : Shape := ⟨2, ![4096, 128]⟩
abbrev S2x128 : Shape := ⟨2, ![2, 128]⟩
abbrev S2x2x64x128 : Shape := ⟨4, ![2, 2, 64, 128]⟩
abbrev S_ : Shape := ⟨0, ![]⟩
abbrev S1x128 : Shape := ⟨2, ![1, 128]⟩
abbrev S128 : Shape := ⟨1, ![128]⟩
abbrev S1x1x64x128 : Shape := ⟨4, ![1, 1, 64, 128]⟩
abbrev S64x128 : Shape := ⟨2, ![64, 128]⟩
abbrev S1x64 : Shape := ⟨2, ![1, 64]⟩
abbrev S64 : Shape := ⟨1, ![64]⟩

abbrev nBuf : Table → Nat
  | .hbm => 6
  | .local .scVector .vmem => 3
  | _ => 0

abbrev bufTy : (tb : Table) → Fin (nBuf tb) → BufTy
  | .hbm, ⟨0, _⟩ => ⟨S65536x128, .f32⟩
  | .hbm, ⟨1, _⟩ => ⟨S1000000, .i32⟩
  | .hbm, ⟨2, _⟩ => ⟨S4096, .i32⟩
  | .hbm, ⟨3, _⟩ => ⟨S4096, .i32⟩
  | .hbm, ⟨4, _⟩ => ⟨S4096x128, .f32⟩
  | .hbm, ⟨5, _⟩ => ⟨S4096x128, .f32⟩
  | .local .scVector .vmem, ⟨0, _⟩ => ⟨S2x128, .i32⟩
  | .local .scVector .vmem, ⟨1, _⟩ => ⟨S2x128, .i32⟩
  | .local .scVector .vmem, ⟨2, _⟩ => ⟨S2x2x64x128, .f32⟩
  | _, _ => ⟨S65536x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) (c0_i32_69 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v72 : BitVec 32 := Scalar.addi v2 c0_i32_69
  let c0_i32_74 : BitVec 32 := 0#32
  ![v72.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x128 : Shape := ⟨2, ![65536, 128]⟩
abbrev S1000000 : Shape := ⟨1, ![1000000]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S8192 : Shape := ⟨1, ![8192]⟩
abbrev S8192x1 : Shape := ⟨2, ![8192, 1]⟩
abbrev S1x8192 : Shape := ⟨2, ![1, 8192]⟩
abbrev S8191 : Shape := ⟨1, ![8191]⟩
abbrev S4096x8192 : Shape := ⟨2, ![4096, 8192]⟩
abbrev S8192x128 : Shape := ⟨2, ![8192, 128]⟩
abbrev S4096x128 : Shape := ⟨2, ![4096, 128]⟩

abbrev nBuf : Space → Nat
  | .hbm => 251
  | .vmem => 0
  | .smem => 0
  | _ => 0

abbrev hbmTy0_0 (i : Nat) : BufTy := match i % 128 with
  | 0 => ⟨S65536x128, .f32⟩
  | 1 => ⟨S1000000, .i32⟩
  | 2 => ⟨S4096, .i32⟩
  | 3 => ⟨S4096, .i32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S1, .i32⟩
  | 13 => ⟨S_, .i32⟩
  | 14 => ⟨S4096x1, .i32⟩
  | 15 => ⟨S4096x1, .i1⟩
  | 16 => ⟨S1x1, .i32⟩
  | 17 => ⟨S4096x1, .i32⟩
  | 18 => ⟨S4096x1, .i1⟩
  | 19 => ⟨S4096x1, .i1⟩
  | 20 => ⟨S_, .i1⟩
  | 21 => ⟨S4096, .i1⟩
  | 22 => ⟨S4096, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S1, .i32⟩
  | 35 => ⟨S_, .i32⟩
  | 36 => ⟨S4096x1, .i32⟩
  | 37 => ⟨S4096x1, .i1⟩
  | 38 => ⟨S1x1, .i32⟩
  | 39 => ⟨S4096x1, .i32⟩
  | 40 => ⟨S4096x1, .i1⟩
  | 41 => ⟨S4096x1, .i1⟩
  | 42 => ⟨S_, .i1⟩
  | 43 => ⟨S4096, .i1⟩
  | 44 => ⟨S4096, .i32⟩
  | 45 => ⟨S_, .i32⟩
  | 46 => ⟨S4096, .i32⟩
  | 47 => ⟨S4096, .i32⟩
  | 48 => ⟨S8192, .i32⟩
  | 49 => ⟨S_, .i32⟩
  | 50 => ⟨S_, .i32⟩
  | 51 => ⟨S8192x1, .i32⟩
  | 52 => ⟨S1x8192, .i32⟩
  | 53 => ⟨S1x8192, .i32⟩
  | 54 => ⟨S1x8192, .i32⟩
  | 55 => ⟨S8192, .i32⟩
  | 56 => ⟨S8192, .i32⟩
  | 57 => ⟨S8192, .i32⟩
  | 58 => ⟨S8192, .i32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S8192, .i32⟩
  | 68 => ⟨S_, .i1⟩
  | 69 => ⟨S8192, .i1⟩
  | 70 => ⟨S8191, .i32⟩
  | 71 => ⟨S8191, .i32⟩
  | 72 => ⟨S8191, .i1⟩
  | 73 => ⟨S_, .i1⟩
  | 74 => ⟨S8191, .i1⟩
  | 75 => ⟨S_, .i32⟩
  | 76 => ⟨S1, .i32⟩
  | 77 => ⟨S8192, .i1⟩
  | 78 => ⟨S8192, .i32⟩
  | 79 => ⟨S_, .i32⟩
  | 80 => ⟨S_, .i32⟩
  | 81 => ⟨S8192, .i32⟩
  | 82 => ⟨S_, .i32⟩
  | 83 => ⟨S8192, .i32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S_, .i32⟩
  | 93 => ⟨S8192, .i32⟩
  | 94 => ⟨S8192, .i32⟩
  | 95 => ⟨S_, .i32⟩
  | 96 => ⟨S_, .i32⟩
  | 97 => ⟨S8192, .i32⟩
  | 98 => ⟨S_, .i32⟩
  | 99 => ⟨S_, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i1⟩
  | 106 => ⟨S8192, .i32⟩
  | 107 => ⟨S8192, .i32⟩
  | 108 => ⟨S_, .i32⟩
  | 109 => ⟨S8192, .i32⟩
  | 110 => ⟨S8192, .i1⟩
  | 111 => ⟨S8192, .i1⟩
  | 112 => ⟨S_, .i32⟩
  | 113 => ⟨S8192, .i32⟩
  | 114 => ⟨S8192, .i32⟩
  | 115 => ⟨S8192, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S8192, .i32⟩
  | 123 => ⟨S8192, .i32⟩
  | 124 => ⟨S_, .i32⟩
  | 125 => ⟨S8192, .i32⟩
  | 126 => ⟨S8192, .i1⟩
  | 127 => ⟨S_, .i32⟩
  | _ => ⟨S65536x128, .f32⟩

abbrev hbmTy0_1 (i : Nat) : BufTy := match i % 128 with
  | 0 => ⟨S8192, .i32⟩
  | 1 => ⟨S8192, .i1⟩
  | 2 => ⟨S_, .i32⟩
  | 3 => ⟨S_, .i1⟩
  | 4 => ⟨S8192, .i1⟩
  | 5 => ⟨S8192, .i1⟩
  | 6 => ⟨S8192, .i1⟩
  | 7 => ⟨S8192, .i32⟩
  | 8 => ⟨S8192, .i32⟩
  | 9 => ⟨S8192, .i32⟩
  | 10 => ⟨S8192, .i32⟩
  | 11 => ⟨S_, .i32⟩
  | 12 => ⟨S_, .i32⟩
  | 13 => ⟨S1, .i32⟩
  | 14 => ⟨S8192, .i32⟩
  | 15 => ⟨S8192, .i32⟩
  | 16 => ⟨S8192, .i1⟩
  | 17 => ⟨S_, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192, .i32⟩
  | 30 => ⟨S8192, .i32⟩
  | 31 => ⟨S8192, .i32⟩
  | 32 => ⟨S_, .i32⟩
  | 33 => ⟨S_, .i32⟩
  | 34 => ⟨S8192, .i32⟩
  | 35 => ⟨S8192, .i1⟩
  | 36 => ⟨S8192, .i32⟩
  | 37 => ⟨S8192, .i32⟩
  | 38 => ⟨S1x8192, .i32⟩
  | 39 => ⟨S4096x1, .i32⟩
  | 40 => ⟨S4096x8192, .i32⟩
  | 41 => ⟨S4096x8192, .i32⟩
  | 42 => ⟨S4096x8192, .i1⟩
  | 43 => ⟨S4096x8192, .i32⟩
  | 44 => ⟨S_, .i32⟩
  | 45 => ⟨S4096, .i32⟩
  | 46 => ⟨S1x8192, .i32⟩
  | 47 => ⟨S4096x1, .i32⟩
  | 48 => ⟨S4096x8192, .i32⟩
  | 49 => ⟨S4096x8192, .i32⟩
  | 50 => ⟨S4096x8192, .i1⟩
  | 51 => ⟨S4096x8192, .i32⟩
  | 52 => ⟨S_, .i32⟩
  | 53 => ⟨S4096, .i32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S1, .i32⟩
  | 63 => ⟨S_, .i32⟩
  | 64 => ⟨S8192x1, .i32⟩
  | 65 => ⟨S8192x1, .i1⟩
  | 66 => ⟨S1x1, .i32⟩
  | 67 => ⟨S8192x1, .i32⟩
  | 68 => ⟨S8192x1, .i1⟩
  | 69 => ⟨S8192x1, .i1⟩
  | 70 => ⟨S_, .i1⟩
  | 71 => ⟨S8192, .i1⟩
  | 72 => ⟨S8192x128, .f32⟩
  | 73 => ⟨S8192x128, .i1⟩
  | 74 => ⟨S_, .f32⟩
  | 75 => ⟨S8192x128, .f32⟩
  | 76 => ⟨S8192x128, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S1, .i32⟩
  | 86 => ⟨S_, .i32⟩
  | 87 => ⟨S4096x1, .i32⟩
  | 88 => ⟨S4096x1, .i1⟩
  | 89 => ⟨S1x1, .i32⟩
  | 90 => ⟨S4096x1, .i32⟩
  | 91 => ⟨S4096x1, .i1⟩
  | 92 => ⟨S4096x1, .i1⟩
  | 93 => ⟨S_, .i1⟩
  | 94 => ⟨S4096, .i1⟩
  | 95 => ⟨S4096x128, .f32⟩
  | 96 => ⟨S4096x128, .i1⟩
  | 97 => ⟨S_, .f32⟩
  | 98 => ⟨S4096x128, .f32⟩
  | 99 => ⟨S4096x128, .f32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S1, .i32⟩
  | 109 => ⟨S_, .i32⟩
  | 110 => ⟨S4096x1, .i32⟩
  | 111 => ⟨S4096x1, .i1⟩
  | 112 => ⟨S1x1, .i32⟩
  | 113 => ⟨S4096x1, .i32⟩
  | 114 => ⟨S4096x1, .i1⟩
  | 115 => ⟨S4096x1, .i1⟩
  | 116 => ⟨S_, .i1⟩
  | 117 => ⟨S4096, .i1⟩
  | 118 => ⟨S4096x128, .f32⟩
  | 119 => ⟨S4096x128, .i1⟩
  | 120 => ⟨S_, .f32⟩
  | 121 => ⟨S4096x128, .f32⟩
  | 122 => ⟨S4096x128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_c_4 : Ref sig .tc := ⟨.hbm, 45, rfl⟩
abbrev main_call1_v14 : Ref sig .tc := ⟨.hbm, 46, rfl⟩
abbrev main_v1 : Ref sig .tc := ⟨.hbm, 47, rfl⟩
abbrev main_v2 : Ref sig .tc := ⟨.hbm, 48, rfl⟩
abbrev main_c : Ref sig .tc := ⟨.hbm, 49, rfl⟩
abbrev main_v3 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_call0_v0 : Ref sig .tc := ⟨.hbm, 54, rfl⟩
abbrev main_call2_call0_v1 : Ref sig .tc := ⟨.hbm, 55, rfl⟩
abbrev main_call2_call0_v2 : Ref sig .tc := ⟨.hbm, 56, rfl⟩
abbrev main_call2_call0_v3_0 : Ref sig .tc := ⟨.hbm, 57, rfl⟩
abbrev main_v4_2 : Ref sig .tc := ⟨.hbm, 58, rfl⟩
abbrev main_call2_c : Ref sig .tc := ⟨.hbm, 59, rfl⟩
abbrev main_call2_v4 : Ref sig .tc := ⟨.hbm, 60, rfl⟩
abbrev main_call2_v5 : Ref sig .tc := ⟨.hbm, 61, rfl⟩
abbrev main_call2_c_0 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_v4_0 : Ref sig .tc := ⟨.hbm, 67, rfl⟩
abbrev main_call2_c_1 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_c_2 : Ref sig .tc := ⟨.hbm, 73, rfl⟩
abbrev main_call2_v15 : Ref sig .tc := ⟨.hbm, 74, rfl⟩
abbrev main_call2_c_3 : Ref sig .tc := ⟨.hbm, 75, rfl⟩
abbrev main_call2_v16 : Ref sig .tc := ⟨.hbm, 76, rfl⟩
abbrev main_v4_1 : Ref sig .tc := ⟨.hbm, 77, rfl⟩
abbrev main_call3_v0 : Ref sig .tc := ⟨.hbm, 78, rfl⟩
abbrev main_call3_call0_c : Ref sig .tc := ⟨.hbm, 79, rfl⟩
abbrev main_call3_call0_v0 : Ref sig .tc := ⟨.hbm, 80, rfl⟩
abbrev main_v5 : Ref sig .tc := ⟨.hbm, 81, rfl⟩
abbrev main_c_0 : Ref sig .tc := ⟨.hbm, 82, rfl⟩
abbrev main_v6 : Ref sig .tc := ⟨.hbm, 83, rfl⟩
abbrev main_c_1 : Ref sig .tc := ⟨.hbm, 84, rfl⟩
abbrev main_v7 : Ref sig .tc := ⟨.hbm, 85, rfl⟩
abbrev main_v8 : Ref sig .tc := ⟨.hbm, 86, rfl⟩
abbrev main_c_2 : Ref sig .tc := ⟨.hbm, 87, rfl⟩
abbrev main_v9 : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_c_3 : Ref sig .tc := ⟨.hbm, 92, rfl⟩
abbrev main_v13 : Ref sig .tc := ⟨.hbm, 93, rfl⟩
abbrev main_v14 : Ref sig .tc := ⟨.hbm, 94, rfl⟩
abbrev main_call4_call0_c : Ref sig .tc := ⟨.hbm, 95, rfl⟩
abbrev main_call4_call0_v0 : Ref sig .tc := ⟨.hbm, 96, rfl⟩
abbrev main_v15 : Ref sig .tc := ⟨.hbm, 97, rfl⟩
abbrev main_c_4 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_call5_v5 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_c : Ref sig .tc := ⟨.hbm, 108, rfl⟩
abbrev main_call5_v9 : Ref sig .tc := ⟨.hbm, 109, rfl⟩
abbrev main_call5_v10 : Ref sig .tc := ⟨.hbm, 110, rfl⟩
abbrev main_call5_v11 : Ref sig .tc := ⟨.hbm, 111, rfl⟩
abbrev main_call5_c_0 : Ref sig .tc := ⟨.hbm, 112, rfl⟩
abbrev main_call5_v12 : Ref sig .tc := ⟨.hbm, 113, rfl⟩
abbrev main_call5_v13 : Ref sig .tc := ⟨.hbm, 114, rfl⟩
abbrev main_v16 : Ref sig .tc := ⟨.hbm, 115, rfl⟩
abbrev main_c_5 : Ref sig .tc := ⟨.hbm, 116, rfl⟩
abbrev main_call6_v0 : Ref sig .tc := ⟨.hbm, 117, rfl⟩
abbrev main_call6_c : Ref sig .tc := ⟨.hbm, 118, rfl⟩
abbrev main_call6_v1 : Ref sig .tc := ⟨.hbm, 119, rfl⟩
abbrev main_call6_c_0 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_c_1 : Ref sig .tc := ⟨.hbm, 124, rfl⟩
abbrev main_call6_v5 : Ref sig .tc := ⟨.hbm, 125, rfl⟩
abbrev main_call6_v6 : Ref sig .tc := ⟨.hbm, 126, rfl⟩
abbrev main_call6_c_2 : Ref sig .tc := ⟨.hbm, 127, rfl⟩
abbrev main_call6_v7 : Ref sig .tc := ⟨.hbm, 128, rfl⟩
abbrev main_call6_v8 : Ref sig .tc := ⟨.hbm, 129, rfl⟩
abbrev main_call6_c_3 : Ref sig .tc := ⟨.hbm, 130, rfl⟩
abbrev main_call6_v9 : Ref sig .tc := ⟨.hbm, 131, rfl⟩
abbrev main_call6_v10 : Ref sig .tc := ⟨.hbm, 132, rfl⟩
abbrev main_call6_v11 : Ref sig .tc := ⟨.hbm, 133, rfl⟩
abbrev main_call6_v12 : Ref sig .tc := ⟨.hbm, 134, rfl⟩
abbrev main_call6_v13 : Ref sig .tc := ⟨.hbm, 135, rfl⟩
abbrev main_call6_v14 : Ref sig .tc := ⟨.hbm, 136, rfl⟩
abbrev main_v17 : Ref sig .tc := ⟨.hbm, 137, rfl⟩
abbrev main_v18 : Ref sig .tc := ⟨.hbm, 138, rfl⟩
abbrev main_c_6 : Ref sig .tc := ⟨.hbm, 139, rfl⟩
abbrev main_v19 : Ref sig .tc := ⟨.hbm, 140, rfl⟩
abbrev main_v20 : Ref sig .tc := ⟨.hbm, 141, rfl⟩
abbrev main_v21 : Ref sig .tc := ⟨.hbm, 142, rfl⟩
abbrev main_v22 : Ref sig .tc := ⟨.hbm, 143, rfl⟩
abbrev main_v23 : Ref sig .tc := ⟨.hbm, 144, rfl⟩
abbrev main_c_7 : Ref sig .tc := ⟨.hbm, 145, rfl⟩
abbrev main_call7_v0 : Ref sig .tc := ⟨.hbm, 146, rfl⟩
abbrev main_call7_v1 : Ref sig .tc := ⟨.hbm, 147, rfl⟩
abbrev main_v24 : Ref sig .tc := ⟨.hbm, 148, rfl⟩
abbrev main_c_8 : Ref sig .tc := ⟨.hbm, 149, rfl⟩
abbrev main_v25 : Ref sig .tc := ⟨.hbm, 150, rfl⟩
abbrev main_v26 : Ref sig .tc := ⟨.hbm, 151, rfl⟩
abbrev main_c_9 : Ref sig .tc := ⟨.hbm, 152, rfl⟩
abbrev main_v27 : Ref sig .tc := ⟨.hbm, 153, rfl⟩
abbrev main_v28 : Ref sig .tc := ⟨.hbm, 154, rfl⟩
abbrev main_v29 : Ref sig .tc := ⟨.hbm, 155, rfl⟩
abbrev main_v30 : Ref sig .tc := ⟨.hbm, 156, rfl⟩
abbrev main_v31 : Ref sig .tc := ⟨.hbm, 157, rfl⟩
abbrev main_v32 : Ref sig .tc := ⟨.hbm, 158, rfl⟩
abbrev main_v33 : Ref sig .tc := ⟨.hbm, 159, rfl⟩
abbrev main_c_10 : Ref sig .tc := ⟨.hbm, 160, rfl⟩
abbrev main_v34 : Ref sig .tc := ⟨.hbm, 161, rfl⟩
abbrev main_v35 : Ref sig .tc := ⟨.hbm, 162, rfl⟩
abbrev main_v36 : Ref sig .tc := ⟨.hbm, 163, rfl⟩
abbrev main_call8_v0 : Ref sig .tc := ⟨.hbm, 164, rfl⟩
abbrev main_v37 : Ref sig .tc := ⟨.hbm, 165, rfl⟩
abbrev main_v38 : Ref sig .tc := ⟨.hbm, 166, rfl⟩
abbrev main_v39 : Ref sig .tc := ⟨.hbm, 167, rfl⟩
abbrev main_v40 : Ref sig .tc := ⟨.hbm, 168, rfl⟩
abbrev main_v41 : Ref sig .tc := ⟨.hbm, 169, rfl⟩
abbrev main_v42 : Ref sig .tc := ⟨.hbm, 170, rfl⟩
abbrev main_v43 : Ref sig .tc := ⟨.hbm, 171, rfl⟩
abbrev main_c_11 : Ref sig .tc := ⟨.hbm, 172, rfl⟩
abbrev main_v44 : Ref sig .tc := ⟨.hbm, 173, rfl⟩
abbrev main_v45 : Ref sig .tc := ⟨.hbm, 174, rfl⟩
abbrev main_v46 : Ref sig .tc := ⟨.hbm, 175, rfl⟩
abbrev main_v47 : Ref sig .tc := ⟨.hbm, 176, rfl⟩
abbrev main_v48 : Ref sig .tc := ⟨.hbm, 177, rfl⟩
abbrev main_v49 : Ref sig .tc := ⟨.hbm, 178, rfl⟩
abbrev main_v50 : Ref sig .tc := ⟨.hbm, 179, rfl⟩
abbrev main_c_12 : Ref sig .tc := ⟨.hbm, 180, rfl⟩
abbrev main_v51 : Ref sig .tc := ⟨.hbm, 181, rfl⟩
abbrev main_call9_c : Ref sig .tc := ⟨.hbm, 182, rfl⟩
abbrev main_call9_v0 : Ref sig .tc := ⟨.hbm, 183, rfl⟩
abbrev main_call9_v1 : Ref sig .tc := ⟨.hbm, 184, rfl⟩
abbrev main_call9_c_0 : Ref sig .tc := ⟨.hbm, 185, rfl⟩
abbrev main_call9_v2 : Ref sig .tc := ⟨.hbm, 186, rfl⟩
abbrev main_call9_v3 : Ref sig .tc := ⟨.hbm, 187, rfl⟩
abbrev main_call9_v4 : Ref sig .tc := ⟨.hbm, 188, rfl⟩
abbrev main_call9_v5 : Ref sig .tc := ⟨.hbm, 189, rfl⟩
abbrev main_call9_c_1 : Ref sig .tc := ⟨.hbm, 190, rfl⟩
abbrev main_call9_c_2 : Ref sig .tc := ⟨.hbm, 191, rfl⟩
abbrev main_call9_v6 : Ref sig .tc := ⟨.hbm, 192, rfl⟩
abbrev main_call9_v7 : Ref sig .tc := ⟨.hbm, 193, rfl⟩
abbrev main_call9_v8 : Ref sig .tc := ⟨.hbm, 194, rfl⟩
abbrev main_call9_v9 : Ref sig .tc := ⟨.hbm, 195, rfl⟩
abbrev main_call9_v10 : Ref sig .tc := ⟨.hbm, 196, rfl⟩
abbrev main_call9_v11 : Ref sig .tc := ⟨.hbm, 197, rfl⟩
abbrev main_call9_c_3 : Ref sig .tc := ⟨.hbm, 198, rfl⟩
abbrev main_call9_v12 : Ref sig .tc := ⟨.hbm, 199, rfl⟩
abbrev main_call9_v13 : Ref sig .tc := ⟨.hbm, 200, rfl⟩
abbrev main_call9_v14 : Ref sig .tc := ⟨.hbm, 201, rfl⟩
abbrev main_call9_cst : Ref sig .tc := ⟨.hbm, 202, rfl⟩
abbrev main_call9_v15 : Ref sig .tc := ⟨.hbm, 203, rfl⟩
abbrev main_v52 : Ref sig .tc := ⟨.hbm, 204, rfl⟩
abbrev main_call10_c : Ref sig .tc := ⟨.hbm, 205, rfl⟩
abbrev main_call10_v0 : Ref sig .tc := ⟨.hbm, 206, rfl⟩
abbrev main_call10_v1 : Ref sig .tc := ⟨.hbm, 207, rfl⟩
abbrev main_call10_c_0 : Ref sig .tc := ⟨.hbm, 208, rfl⟩
abbrev main_call10_v2 : Ref sig .tc := ⟨.hbm, 209, rfl⟩
abbrev main_call10_v3 : Ref sig .tc := ⟨.hbm, 210, rfl⟩
abbrev main_call10_v4 : Ref sig .tc := ⟨.hbm, 211, rfl⟩
abbrev main_call10_v5 : Ref sig .tc := ⟨.hbm, 212, rfl⟩
abbrev main_call10_c_1 : Ref sig .tc := ⟨.hbm, 213, rfl⟩
abbrev main_call10_c_2 : Ref sig .tc := ⟨.hbm, 214, rfl⟩
abbrev main_call10_v6 : Ref sig .tc := ⟨.hbm, 215, rfl⟩
abbrev main_call10_v7 : Ref sig .tc := ⟨.hbm, 216, rfl⟩
abbrev main_call10_v8 : Ref sig .tc := ⟨.hbm, 217, rfl⟩
abbrev main_call10_v9 : Ref sig .tc := ⟨.hbm, 218, rfl⟩
abbrev main_call10_v10 : Ref sig .tc := ⟨.hbm, 219, rfl⟩
abbrev main_call10_v11 : Ref sig .tc := ⟨.hbm, 220, rfl⟩
abbrev main_call10_c_3 : Ref sig .tc := ⟨.hbm, 221, rfl⟩
abbrev main_call10_v12 : Ref sig .tc := ⟨.hbm, 222, rfl⟩
abbrev main_call10_v13 : Ref sig .tc := ⟨.hbm, 223, rfl⟩
abbrev main_call10_v14 : Ref sig .tc := ⟨.hbm, 224, rfl⟩
abbrev main_call10_cst : Ref sig .tc := ⟨.hbm, 225, rfl⟩
abbrev main_call10_v15 : Ref sig .tc := ⟨.hbm, 226, rfl⟩
abbrev main_v53 : Ref sig .tc := ⟨.hbm, 227, rfl⟩
abbrev main_call11_c : Ref sig .tc := ⟨.hbm, 228, rfl⟩
abbrev main_call11_v0 : Ref sig .tc := ⟨.hbm, 229, rfl⟩
abbrev main_call11_v1 : Ref sig .tc := ⟨.hbm, 230, rfl⟩
abbrev main_call11_c_0 : Ref sig .tc := ⟨.hbm, 231, rfl⟩
abbrev main_call11_v2 : Ref sig .tc := ⟨.hbm, 232, rfl⟩
abbrev main_call11_v3 : Ref sig .tc := ⟨.hbm, 233, rfl⟩
abbrev main_call11_v4 : Ref sig .tc := ⟨.hbm, 234, rfl⟩
abbrev main_call11_v5 : Ref sig .tc := ⟨.hbm, 235, rfl⟩
abbrev main_call11_c_1 : Ref sig .tc := ⟨.hbm, 236, rfl⟩
abbrev main_call11_c_2 : Ref sig .tc := ⟨.hbm, 237, rfl⟩
abbrev main_call11_v6 : Ref sig .tc := ⟨.hbm, 238, rfl⟩
abbrev main_call11_v7 : Ref sig .tc := ⟨.hbm, 239, rfl⟩
abbrev main_call11_v8 : Ref sig .tc := ⟨.hbm, 240, rfl⟩
abbrev main_call11_v9 : Ref sig .tc := ⟨.hbm, 241, rfl⟩
abbrev main_call11_v10 : Ref sig .tc := ⟨.hbm, 242, rfl⟩
abbrev main_call11_v11 : Ref sig .tc := ⟨.hbm, 243, rfl⟩
abbrev main_call11_c_3 : Ref sig .tc := ⟨.hbm, 244, rfl⟩
abbrev main_call11_v12 : Ref sig .tc := ⟨.hbm, 245, rfl⟩
abbrev main_call11_v13 : Ref sig .tc := ⟨.hbm, 246, rfl⟩
abbrev main_call11_v14 : Ref sig .tc := ⟨.hbm, 247, rfl⟩
abbrev main_call11_cst : Ref sig .tc := ⟨.hbm, 248, rfl⟩
abbrev main_call11_v15 : Ref sig .tc := ⟨.hbm, 249, rfl⟩
abbrev main_v54 : Ref sig .tc := ⟨.hbm, 250, rfl⟩

abbrev nD : Nat := 1
abbrev τ : Topo := Topo.v7x

variable {F : FTy → Type} [FloatOps F]
-- ==== Proof.RefOps.lean ====
/-
  The reference as lists of its operations: a list for each call it makes and one for each run of operations between calls,
  with what each list writes.
-/
module

public import proofs.«01_k».proof.Proof.Gen.ReferenceIdeal
public import Idealize.ShloMosaic.Lib.StableHlo.Run
public import Idealize.ShloMosaic.Lib.Pipeline.Frame

@[expose] public section

noncomputable section

namespace Cert.Proof.OfReference

open Cert.ReferenceIdeal Cert.ReferenceIdeal.Gen Idealize.ShloMosaic Idealize.ShloMosaic.TcCoe Idealize.SL.Sem Idealize.ShloMosaic.StableHlo

variable {F : FTy → Type} [FloatOps F]

/-- Two lists of centers, one after the other. -/
def joinIds (a b : IVec S4096 32) : IVec S8192 32 := concatenate S8192 0 [⟨S4096, a⟩, ⟨S4096, b⟩] concatenates_S4096_S4096_S8192_d0

/-- The type of the program's parts. -/
abbrev Part (F : FTy → Type) [FloatOps F] : Type 1 := Prog (TpuEff nD τ sig (Elt F) (Pipeline.Sig Λ₀ (Fin 0) fun p => (pcfgs (F := F) p).Adm) .tc) PUnit

/-- A list of operations each of which touches the core's buffers, writes buffers of the list `W` only, and allocates nothing. -/
structure Line (ops : List (HloOp τ sig (Elt F))) (W : List (Ref sig .tc)) : Prop where
  sub : ops.Forall fun op => op.bufs ⊆ tcRefs τ sig
  writes : ops.Forall fun op => op.writes ⊆ (W.map (Proc.devRef (τ := τ) .tc)).toFinset
  fresh : ops.Forall fun op => op.fresh = ∅

/-- One line after another. -/
theorem Line.append {a b : List (HloOp τ sig (Elt F))} {A B : List (Ref sig .tc)} (ha : Line a A) (hb : Line b B) : Line (a ++ b) (A ++ B) where
  sub := List.forall_append.2 ⟨ha.sub, hb.sub⟩
  writes := by
    refine List.forall_append.2 ⟨ha.writes.imp fun _ h => h.trans ?_, hb.writes.imp fun _ h => h.trans ?_⟩ <;>
      rw [List.map_append, List.toFinset_append]
    · exact Finset.subset_union_left
    · exact Finset.subset_union_right
  fresh := List.forall_append.2 ⟨ha.fresh, hb.fresh⟩

/-- What a line does not write it leaves. -/
theorem Line.keep {ops : List (HloOp τ sig (Elt F))} {W : List (Ref sig .tc)} (h : Line ops W) (V : Valuation τ sig (Elt F)) (r : Ref sig .tc)
    (hr : r ∉ W) : after ops V (Proc.devRef .tc r) = V (Proc.devRef .tc r) :=
  after_of_writes_sub ops V h.writes hr

/-- The documents' centers. -/
def takeDoc : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4096, .i32⟩) main_call0_v0) (broadcastInDim S4096 ![] bcast_S_S4096),
    TRef.binary (TRef.of (T := ⟨S4096, .i32⟩) main_arg2) (TRef.of (T := ⟨S4096, .i32⟩) main_call0_v0) (TRef.of (T := ⟨S4096, .i1⟩) main_call0_v1) (cmpi .slt),
    TRef.nullary (TRef.of (T := ⟨S_, .i32⟩) main_call0_c_0) (constantI S_ 32 1000000#32),
    TRef.unary (TRef.of (T := ⟨S_, .i32⟩) main_call0_c_0) (TRef.of (T := ⟨S4096, .i32⟩) main_call0_v2) (broadcastInDim S4096 ![] bcast_S_S4096),
    TRef.binary (TRef.of (T := ⟨S4096, .i32⟩) main_arg2) (TRef.of (T := ⟨S4096, .i32⟩) main_call0_v2) (TRef.of (T := ⟨S4096, .i32⟩) main_call0_v3) addi,
    TRef.ternary (TRef.of (T := ⟨S4096, .i1⟩) main_call0_v1) (TRef.of (T := ⟨S4096, .i32⟩) main_call0_v3) (TRef.of (T := ⟨S4096, .i32⟩) main_arg2) (TRef.of (T := ⟨S4096, .i32⟩) main_call0_v4) select,
    TRef.unary (TRef.of (T := ⟨S4096, .i32⟩) main_call0_v4) (TRef.of (T := ⟨S4096x1, .i32⟩) main_call0_v5) (broadcastInDim S4096x1 ![0] bcast_S4096_S4096x1_0),
    TRef.nullary (TRef.of (T := ⟨S1, .i32⟩) main_call0_c_1) (constantI S1 32 999999#32),
    TRef.nullary (TRef.of (T := ⟨S_, .i32⟩) main_call0_c_2) (constantI S_ 32 0#32),
    TRef.unary (TRef.of (T := ⟨S_, .i32⟩) main_call0_c_2) (TRef.of (T := ⟨S4096x1, .i32⟩) main_call0_v6) (broadcastInDim S4096x1 ![] bcast_S_S4096x1),
    TRef.binary (TRef.of (T := ⟨S4096x1, .i32⟩) main_call0_v5) (TRef.of (T := ⟨S4096x1, .i32⟩) main_call0_v6) (TRef.of (T := ⟨S4096x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S4096x1, .i32⟩) main_call0_v9) (broadcastInDim S4096x1 ![0, 1] bcast_S1x1_S4096x1_0_1),
    TRef.binary (TRef.of (T := ⟨S4096x1, .i32⟩) main_call0_v5) (TRef.of (T := ⟨S4096x1, .i32⟩) main_call0_v9) (TRef.of (T := ⟨S4096x1, .i1⟩) main_call0_v10) (cmpi .sle),
    TRef.binary (TRef.of (T := ⟨S4096x1, .i1⟩) main_call0_v7) (TRef.of (T := ⟨S4096x1, .i1⟩) main_call0_v10) (TRef.of (T := ⟨S4096x1, .i1⟩) main_call0_v11) andi,
    TRef.nullary (TRef.of (T := ⟨S_, .i1⟩) main_call0_c_3) (constantI S_ 1 1#1),
    TRef.binary (TRef.of (T := ⟨S4096x1, .i1⟩) main_call0_v11) (TRef.of (T := ⟨S_, .i1⟩) main_call0_c_3) (TRef.of (T := ⟨S4096, .i1⟩) main_call0_v12) (fun x v => Host.reduce IntOp.andi x v reducesTo_S4096x1_S4096_d1 h_S_),
    TRef.binary (TRef.of (T := ⟨S1000000, .i32⟩) main_arg1) (TRef.of (T := ⟨S4096x1, .i32⟩) main_call0_v5) (TRef.of (T := ⟨S4096, .i32⟩) main_call0_v13) (fun x i => Host.gather gather_S1000000_S4096x1_S4096_n_0_n_n_0_1_1 x i),
    TRef.nullary (TRef.of (T := ⟨S_, .i32⟩) main_call0_c_4) (constantI S_ 32 2147483648#32),
    TRef.unary (TRef.of (T := ⟨S_, .i32⟩) main_call0_c_4) (TRef.of (T := ⟨S4096, .i32⟩) main_call0_v14) (broadcastInDim S4096 ![] bcast_S_S4096),
    TRef.ternary (TRef.of (T := ⟨S4096, .i1⟩) main_call0_v12) (TRef.of (T := ⟨S4096, .i32⟩) main_call0_v13) (TRef.of (T := ⟨S4096, .i32⟩) main_call0_v14) (TRef.of (T := ⟨S4096, .i32⟩) main_v0) select ]

def takeDocW : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v0]

set_option maxRecDepth 8192 in
theorem takeDoc_line : Line (F := F) takeDoc takeDocW := by
  refine ⟨?_, forall_writes_sub_of_map rfl, forall_fresh_of_map rfl⟩
  simp only [takeDoc, List.Forall, nullary_bufs_sub, unary_bufs_sub, binary_bufs_sub, ternary_bufs_sub, reshape_bufs_sub, and_self]

set_option maxRecDepth 8192 in
theorem takeDoc_eq : (fn_take.body (.of main_arg1) (.of main_arg2) main_call0 : Part F) = seq takeDoc := rfl

/-- The negatives' centers. -/
def takeNeg : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4096, .i32⟩) main_call1_v0) (broadcastInDim S4096 ![] bcast_S_S4096),
    TRef.binary (TRef.of (T := ⟨S4096, .i32⟩) main_arg3) (TRef.of (T := ⟨S4096, .i32⟩) main_call1_v0) (TRef.of (T := ⟨S4096, .i1⟩) main_call1_v1) (cmpi .slt),
    TRef.nullary (TRef.of (T := ⟨S_, .i32⟩) main_call1_c_0) (constantI S_ 32 1000000#32),
    TRef.unary (TRef.of (T := ⟨S_, .i32⟩) main_call1_c_0) (TRef.of (T := ⟨S4096, .i32⟩) main_call1_v2) (broadcastInDim S4096 ![] bcast_S_S4096),
    TRef.binary (TRef.of (T := ⟨S4096, .i32⟩) main_arg3) (TRef.of (T := ⟨S4096, .i32⟩) main_call1_v2) (TRef.of (T := ⟨S4096, .i32⟩) main_call1_v3) addi,
    TRef.ternary (TRef.of (T := ⟨S4096, .i1⟩) main_call1_v1) (TRef.of (T := ⟨S4096, .i32⟩) main_call1_v3) (TRef.of (T := ⟨S4096, .i32⟩) main_arg3) (TRef.of (T := ⟨S4096, .i32⟩) main_call1_v4) select,
    TRef.unary (TRef.of (T := ⟨S4096, .i32⟩) main_call1_v4) (TRef.of (T := ⟨S4096x1, .i32⟩) main_call1_v5) (broadcastInDim S4096x1 ![0] bcast_S4096_S4096x1_0),
    TRef.nullary (TRef.of (T := ⟨S1, .i32⟩) main_call1_c_1) (constantI S1 32 999999#32),
    TRef.nullary (TRef.of (T := ⟨S_, .i32⟩) main_call1_c_2) (constantI S_ 32 0#32),
    TRef.unary (TRef.of (T := ⟨S_, .i32⟩) main_call1_c_2) (TRef.of (T := ⟨S4096x1, .i32⟩) main_call1_v6) (broadcastInDim S4096x1 ![] bcast_S_S4096x1),
    TRef.binary (TRef.of (T := ⟨S4096x1, .i32⟩) main_call1_v5) (TRef.of (T := ⟨S4096x1, .i32⟩) main_call1_v6) (TRef.of (T := ⟨S4096x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S4096x1, .i32⟩) main_call1_v9) (broadcastInDim S4096x1 ![0, 1] bcast_S1x1_S4096x1_0_1),
    TRef.binary (TRef.of (T := ⟨S4096x1, .i32⟩) main_call1_v5) (TRef.of (T := ⟨S4096x1, .i32⟩) main_call1_v9) (TRef.of (T := ⟨S4096x1, .i1⟩) main_call1_v10) (cmpi .sle),
    TRef.binary (TRef.of (T := ⟨S4096x1, .i1⟩) main_call1_v7) (TRef.of (T := ⟨S4096x1, .i1⟩) main_call1_v10) (TRef.of (T := ⟨S4096x1, .i1⟩) main_call1_v11) andi,
    TRef.nullary (TRef.of (T := ⟨S_, .i1⟩) main_call1_c_3) (constantI S_ 1 1#1),
    TRef.binary (TRef.of (T := ⟨S4096x1, .i1⟩) main_call1_v11) (TRef.of (T := ⟨S_, .i1⟩) main_call1_c_3) (TRef.of (T := ⟨S4096, .i1⟩) main_call1_v12) (fun x v => Host.reduce IntOp.andi x v reducesTo_S4096x1_S4096_d1 h_S_),
    TRef.binary (TRef.of (T := ⟨S1000000, .i32⟩) main_arg1) (TRef.of (T := ⟨S4096x1, .i32⟩) main_call1_v5) (TRef.of (T := ⟨S4096, .i32⟩) main_call1_v13) (fun x i => Host.gather gather_S1000000_S4096x1_S4096_n_0_n_n_0_1_1 x i),
    TRef.nullary (TRef.of (T := ⟨S_, .i32⟩) main_call1_c_4) (constantI S_ 32 2147483648#32),
    TRef.unary (TRef.of (T := ⟨S_, .i32⟩) main_call1_c_4) (TRef.of (T := ⟨S4096, .i32⟩) main_call1_v14) (broadcastInDim S4096 ![] bcast_S_S4096),
    TRef.ternary (TRef.of (T := ⟨S4096, .i1⟩) main_call1_v12) (TRef.of (T := ⟨S4096, .i32⟩) main_call1_v13) (TRef.of (T := ⟨S4096, .i32⟩) main_call1_v14) (TRef.of (T := ⟨S4096, .i32⟩) main_v1) select ]

def takeNegW : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_c_4, main_call1_v14, main_v1]

set_option maxRecDepth 8192 in
theorem takeNeg_line : Line (F := F) takeNeg takeNegW := by
  refine ⟨?_, forall_writes_sub_of_map rfl, forall_fresh_of_map rfl⟩
  simp only [takeNeg, List.Forall, nullary_bufs_sub, unary_bufs_sub, binary_bufs_sub, ternary_bufs_sub, reshape_bufs_sub, and_self]

set_option maxRecDepth 8192 in
theorem takeNeg_eq : (fn_take.body (.of main_arg1) (.of main_arg3) main_call1 : Part F) = seq takeNeg := rfl

/-- The two lists as one, and its greatest entry. -/
def joined : List (HloOp τ sig (Elt F)) :=
  [ binary main_v0 main_v1 main_v2 (joinIds),
    nullary main_c (constantI S_ 32 2147483648#32),
    binary main_v2 main_c main_v3 ((fun x v => Host.reduce IntOp.maxsi x v reducesTo_S8192_S_d0 h_S_) : (⟨S8192, .i32⟩ : BufTy).Contents (Elt F) → (⟨S_, .i32⟩ : BufTy).Contents (Elt F) → (⟨S_, .i32⟩ : BufTy).Contents (Elt F)) ]

def joinedW : List (Ref sig .tc) := [main_v2, main_c, main_v3]

set_option maxRecDepth 8192 in
theorem joined_line : Line (F := F) joined joinedW := by
  refine ⟨?_, forall_writes_sub_of_map rfl, forall_fresh_of_map rfl⟩
  simp only [joined, List.Forall, nullary_bufs_sub, unary_bufs_sub, binary_bufs_sub, ternary_bufs_sub, reshape_bufs_sub, and_self]

/-- The sorted centers and which of them are first of their kind. -/
def uniq : List (HloOp τ sig (Elt F)) :=
  [ TRef.reshape (TRef.of (T := ⟨S8192, .i32⟩) main_v2) (TRef.of (T := ⟨S8192x1, .i32⟩) main_call2_v0) (rfl : (.i32 : EltTy) = .i32) shapeCasts_S8192_S8192x1,
    TRef.unary (TRef.of (T := ⟨S8192x1, .i32⟩) main_call2_v0) (TRef.of (T := ⟨S1x8192, .i32⟩) main_call2_v1) (transpose S1x8192 [1, 0] · transposes_S8192x1_S1x8192_1_0),
    TRef.unary (TRef.of (T := ⟨S1x8192, .i32⟩) main_call2_v1) (TRef.of (T := ⟨S1x8192, .i32⟩) main_call2_v2) (Host.reverse [0]),
    TRef.unary (TRef.of (T := ⟨S1x8192, .i32⟩) main_call2_v2) (TRef.of (T := ⟨S1x8192, .i32⟩) main_call2_call0_v0) (extractStridedSlice S1x8192 ![0, 0] · slices_S1x8192_S1x8192_0_0),
    TRef.reshape (TRef.of (T := ⟨S1x8192, .i32⟩) main_call2_call0_v0) (TRef.of (T := ⟨S8192, .i32⟩) main_call2_call0_v1) (rfl : (.i32 : EltTy) = .i32) shapeCasts_S1x8192_S8192,
    TRef.nullary (TRef.of (T := ⟨S8192, .i32⟩) main_call2_call0_v2) (iotaInDim S8192 32 0),
    TRef.binary (TRef.of (T := ⟨S8192, .i32⟩) main_call2_call0_v1) (TRef.of (T := ⟨S8192, .i32⟩) main_call2_call0_v2) (TRef.of (T := ⟨S8192, .i32⟩) main_call2_call0_v3_0) (fun x y => (Host.sort2 S8192 0 comparator_i32_i32_d0 x y).1),
    TRef.binary (TRef.of (T := ⟨S8192, .i32⟩) main_call2_call0_v1) (TRef.of (T := ⟨S8192, .i32⟩) main_call2_call0_v2) (TRef.of (T := ⟨S8192, .i32⟩) main_v4_2) (fun x y => (Host.sort2 S8192 0 comparator_i32_i32_d0 x y).2),
    TRef.nullary (TRef.of (T := ⟨S_, .i32⟩) main_call2_c) (constantI S_ 32 0#32),
    TRef.unary (TRef.of (T := ⟨S_, .i32⟩) main_call2_c) (TRef.of (T := ⟨S8192, .i32⟩) main_call2_v4) (broadcastInDim S8192 ![] bcast_S_S8192),
    TRef.binary (TRef.of (T := ⟨S8192, .i32⟩) main_v4_2) (TRef.of (T := ⟨S8192, .i32⟩) main_call2_v4) (TRef.of (T := ⟨S8192, .i1⟩) main_call2_v5) (cmpi .slt),
    TRef.nullary (TRef.of (T := ⟨S_, .i32⟩) main_call2_c_0) (constantI S_ 32 8192#32),
    TRef.unary (TRef.of (T := ⟨S_, .i32⟩) main_call2_c_0) (TRef.of (T := ⟨S8192, .i32⟩) main_call2_v6) (broadcastInDim S8192 ![] bcast_S_S8192),
    TRef.binary (TRef.of (T := ⟨S8192, .i32⟩) main_v4_2) (TRef.of (T := ⟨S8192, .i32⟩) main_call2_v6) (TRef.of (T := ⟨S8192, .i32⟩) main_call2_v7) addi,
    TRef.ternary (TRef.of (T := ⟨S8192, .i1⟩) main_call2_v5) (TRef.of (T := ⟨S8192, .i32⟩) main_call2_v7) (TRef.of (T := ⟨S8192, .i32⟩) main_v4_2) (TRef.of (T := ⟨S8192, .i32⟩) main_call2_v8) select,
    TRef.unary (TRef.of (T := ⟨S8192, .i32⟩) main_call2_v8) (TRef.of (T := ⟨S8192x1, .i32⟩) main_call2_v9) (broadcastInDim S8192x1 ![0] bcast_S8192_S8192x1_0),
    TRef.binary (TRef.of (T := ⟨S8192, .i32⟩) main_v2) (TRef.of (T := ⟨S8192x1, .i32⟩) main_call2_v9) (TRef.of (T := ⟨S8192, .i32⟩) main_v4_0) (fun x i => Host.gather gather_S8192_S8192x1_S8192_n_0_n_n_0_1_1 x i),
    TRef.nullary (TRef.of (T := ⟨S_, .i1⟩) main_call2_c_1) (constantI S_ 1 1#1),
    TRef.unary (TRef.of (T := ⟨S_, .i1⟩) main_call2_c_1) (TRef.of (T := ⟨S8192, .i1⟩) main_call2_v11) (broadcastInDim S8192 ![] bcast_S_S8192),
    TRef.unary (TRef.of (T := ⟨S8192, .i32⟩) main_v4_0) (TRef.of (T := ⟨S8191, .i32⟩) main_call2_v12) (extractStridedSlice S8191 ![1] · slices_S8192_S8191_1),
    TRef.unary (TRef.of (T := ⟨S8192, .i32⟩) main_v4_0) (TRef.of (T := ⟨S8191, .i32⟩) main_call2_v13) (extractStridedSlice S8191 ![0] · slices_S8192_S8191_0),
    TRef.binary (TRef.of (T := ⟨S8191, .i32⟩) main_call2_v12) (TRef.of (T := ⟨S8191, .i32⟩) main_call2_v13) (TRef.of (T := ⟨S8191, .i1⟩) main_call2_v14) (cmpi .ne),
    TRef.nullary (TRef.of (T := ⟨S_, .i1⟩) main_call2_c_2) (constantI S_ 1 0#1),
    TRef.binary (TRef.of (T := ⟨S8191, .i1⟩) main_call2_v14) (TRef.of (T := ⟨S_, .i1⟩) main_call2_c_2) (TRef.of (T := ⟨S8191, .i1⟩) main_call2_v15) (fun x v => Host.reduce IntOp.ori x v reducesTo_S8191_S8191_d h_S_),
    TRef.nullary (TRef.of (T := ⟨S_, .i32⟩) main_call2_c_3) (constantI S_ 32 1#32),
    TRef.unary (TRef.of (T := ⟨S_, .i32⟩) main_call2_c_3) (TRef.of (T := ⟨S1, .i32⟩) main_call2_v16) (broadcastInDim S1 ![] bcast_S_S1),
    TRef.ternary (TRef.of (T := ⟨S8192, .i1⟩) main_call2_v11) (TRef.of (T := ⟨S1, .i32⟩) main_call2_v16) (TRef.of (T := ⟨S8191, .i1⟩) main_call2_v15) (TRef.of (T := ⟨S8192, .i1⟩) main_v4_1) (fun x i u => Host.scatter scatter_S8192_S1_S8191_0_n_0_0 (fun _ b => b) x i u) ]

def uniqW : List (Ref sig .tc) := [main_call2_v0, main_call2_v1, main_call2_v2, main_call2_call0_v0, main_call2_call0_v1, main_call2_call0_v2, main_call2_call0_v3_0, main_v4_2, main_call2_c, main_call2_v4, main_call2_v5, main_call2_c_0, main_call2_v6, main_call2_v7, main_call2_v8, main_call2_v9, main_v4_0, main_call2_c_1, main_call2_v11, main_call2_v12, main_call2_v13, main_call2_v14, main_call2_c_2, main_call2_v15, main_call2_c_3, main_call2_v16, main_v4_1]

set_option maxRecDepth 8192 in
theorem uniq_line : Line (F := F) uniq uniqW := by
  refine ⟨?_, forall_writes_sub_of_map rfl, forall_fresh_of_map rfl⟩
  simp only [uniq, List.Forall, nullary_bufs_sub, unary_bufs_sub, binary_bufs_sub, ternary_bufs_sub, reshape_bufs_sub, and_self]

set_option maxRecDepth 8192 in
theorem uniq_eq : (fn_unique_sorted_mask.body (.of main_v2) main_call2 : Part F) = seq uniq := rfl

/-- How many firsts up to each place. -/
def count : List (HloOp τ sig (Elt F)) :=
  [ TRef.unary (TRef.of (T := ⟨S8192, .i1⟩) main_v4_1) (TRef.of (T := ⟨S8192, .i32⟩) main_call3_v0) (extui 32 · natLt_1_32),
    TRef.nullary (TRef.of (T := ⟨S_, .i32⟩) main_call3_call0_c) (constantI S_ 32 0#32),
    TRef.unary (TRef.of (T := ⟨S_, .i32⟩) main_call3_call0_c) (TRef.of (T := ⟨S_, .i32⟩) main_call3_call0_v0) (broadcastInDim S_ ![] bcast_S_S_),
    TRef.binary (TRef.of (T := ⟨S8192, .i32⟩) main_call3_v0) (TRef.of (T := ⟨S_, .i32⟩) main_call3_call0_v0) (TRef.of (T := ⟨S8192, .i32⟩) main_v5) (fun x v => Host.reduceWindow IntOp.addi ![8192] ![1] ![8191] ![0] x v reduceWindows_S8192_S8192_w8192s1p8191_0 h_S_) ]

def countW : List (Ref sig .tc) := [main_call3_v0, main_call3_call0_c, main_call3_call0_v0, main_v5]

set_option maxRecDepth 8192 in
theorem count_line : Line (F := F) count countW := by
  refine ⟨?_, forall_writes_sub_of_map rfl, forall_fresh_of_map rfl⟩
  simp only [count, List.Forall, nullary_bufs_sub, unary_bufs_sub, binary_bufs_sub, ternary_bufs_sub, reshape_bufs_sub, and_self]

set_option maxRecDepth 8192 in
theorem count_eq : (fn_cumsum.body (.of main_v4_1) main_call3 : Part F) = seq count := rfl

/-- How many places have each count. -/
def scattered : List (HloOp τ sig (Elt F)) :=
  [ nullary main_c_0 (constantI S_ 32 0#32),
    unary main_c_0 main_v6 (broadcastInDim S8192 ![] bcast_S_S8192 : (⟨S_, .i32⟩ : BufTy).Contents (Elt F) → (⟨S8192, .i32⟩ : BufTy).Contents (Elt F)),
    nullary main_c_1 (constantI S_ 32 0#32),
    unary main_c_1 main_v7 (broadcastInDim S8192 ![] bcast_S_S8192 : (⟨S_, .i32⟩ : BufTy).Contents (Elt F) → (⟨S8192, .i32⟩ : BufTy).Contents (Elt F)),
    binary main_v5 main_v7 main_v8 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v9 (broadcastInDim S8192 ![] bcast_S_S8192 : (⟨S_, .i32⟩ : BufTy).Contents (Elt F) → (⟨S8192, .i32⟩ : BufTy).Contents (Elt F)),
    binary main_v5 main_v9 main_v10 (addi : (⟨S8192, .i32⟩ : BufTy).Contents (Elt F) → (⟨S8192, .i32⟩ : BufTy).Contents (Elt F) → (⟨S8192, .i32⟩ : BufTy).Contents (Elt F)),
    ternary main_v8 main_v10 main_v5 main_v11 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v11 main_v12 (broadcastInDim S8192x1 ![0] bcast_S8192_S8192x1_0 : (⟨S8192, .i32⟩ : BufTy).Contents (Elt F) → (⟨S8192x1, .i32⟩ : BufTy).Contents (Elt F)),
    nullary main_c_3 (constantI S_ 32 1#32),
    unary main_c_3 main_v13 (broadcastInDim S8192 ![] bcast_S_S8192 : (⟨S_, .i32⟩ : BufTy).Contents (Elt F) → (⟨S8192, .i32⟩ : BufTy).Contents (Elt F)),
    ternary main_v6 main_v12 main_v13 main_v14 ((fun x i u => Host.scatter scatter_S8192_S8192x1_S8192_n_0_0_1 IntOp.addi x i u) : (⟨S8192, .i32⟩ : BufTy).Contents (Elt F) → (⟨S8192x1, .i32⟩ : BufTy).Contents (Elt F) → (⟨S8192, .i32⟩ : BufTy).Contents (Elt F) → (⟨S8192, .i32⟩ : BufTy).Contents (Elt F)) ]

def scatteredW : List (Ref sig .tc) := [main_c_0, main_v6, main_c_1, main_v7, main_v8, main_c_2, main_v9, main_v10, main_v11, main_v12, main_c_3, main_v13, main_v14]

set_option maxRecDepth 8192 in
theorem scattered_line : Line (F := F) scattered scatteredW := by
  refine ⟨?_, forall_writes_sub_of_map rfl, forall_fresh_of_map rfl⟩
  simp only [scattered, List.Forall, nullary_bufs_sub, unary_bufs_sub, binary_bufs_sub, ternary_bufs_sub, reshape_bufs_sub, and_self]

/-- The running sum. -/
def cums : List (HloOp τ sig (Elt F)) :=
  [ TRef.nullary (TRef.of (T := ⟨S_, .i32⟩) main_call4_call0_c) (constantI S_ 32 0#32),
    TRef.unary (TRef.of (T := ⟨S_, .i32⟩) main_call4_call0_c) (TRef.of (T := ⟨S_, .i32⟩) main_call4_call0_v0) (broadcastInDim S_ ![] bcast_S_S_),
    TRef.binary (TRef.of (T := ⟨S8192, .i32⟩) main_v14) (TRef.of (T := ⟨S_, .i32⟩) main_call4_call0_v0) (TRef.of (T := ⟨S8192, .i32⟩) main_v15) (fun x v => Host.reduceWindow IntOp.addi ![8192] ![1] ![8191] ![0] x v reduceWindows_S8192_S8192_w8192s1p8191_0 h_S_) ]

def cumsW : List (Ref sig .tc) := [main_call4_call0_c, main_call4_call0_v0, main_v15]

set_option maxRecDepth 8192 in
theorem cums_line : Line (F := F) cums cumsW := by
  refine ⟨?_, forall_writes_sub_of_map rfl, forall_fresh_of_map rfl⟩
  simp only [cums, List.Forall, nullary_bufs_sub, unary_bufs_sub, binary_bufs_sub, ternary_bufs_sub, reshape_bufs_sub, and_self]

set_option maxRecDepth 8192 in
theorem cums_eq : (fn_cumsum_1.body (.of main_v14) main_call4 : Part F) = seq cums := rfl

/-- The divisor. -/
def one : List (HloOp τ sig (Elt F)) :=
  [ nullary main_c_4 (constantI S_ 32 1#32) ]

def oneW : List (Ref sig .tc) := [main_c_4]

set_option maxRecDepth 8192 in
theorem one_line : Line (F := F) one oneW := by
  refine ⟨?_, forall_writes_sub_of_map rfl, forall_fresh_of_map rfl⟩
  simp only [one, List.Forall, nullary_bufs_sub, unary_bufs_sub, binary_bufs_sub, ternary_bufs_sub, reshape_bufs_sub, and_self]

/-- The division by one. -/
def floorDiv : List (HloOp τ sig (Elt F)) :=
  [ TRef.unary (TRef.of (T := ⟨S_, .i32⟩) main_c_4) (TRef.of (T := ⟨S_, .i32⟩) main_call5_v0) id,
    TRef.unary (TRef.of (T := ⟨S_, .i32⟩) main_call5_v0) (TRef.of (T := ⟨S8192, .i32⟩) main_call5_v1) (broadcastInDim S8192 ![] bcast_S_S8192),
    TRef.binary (TRef.of (T := ⟨S8192, .i32⟩) main_v15) (TRef.of (T := ⟨S8192, .i32⟩) main_call5_v1) (TRef.of (T := ⟨S8192, .i32⟩) main_call5_v2) Host.divsi,
    TRef.unary (TRef.of (T := ⟨S8192, .i32⟩) main_v15) (TRef.of (T := ⟨S8192, .i32⟩) main_call5_v3) signi,
    TRef.unary (TRef.of (T := ⟨S_, .i32⟩) main_call5_v0) (TRef.of (T := ⟨S_, .i32⟩) main_call5_v4) signi,
    TRef.unary (TRef.of (T := ⟨S_, .i32⟩) main_call5_v4) (TRef.of (T := ⟨S8192, .i32⟩) main_call5_v5) (broadcastInDim S8192 ![] bcast_S_S8192),
    TRef.binary (TRef.of (T := ⟨S8192, .i32⟩) main_call5_v3) (TRef.of (T := ⟨S8192, .i32⟩) main_call5_v5) (TRef.of (T := ⟨S8192, .i1⟩) main_call5_v6) (cmpi .ne),
    TRef.unary (TRef.of (T := ⟨S_, .i32⟩) main_call5_v0) (TRef.of (T := ⟨S8192, .i32⟩) main_call5_v7) (broadcastInDim S8192 ![] bcast_S_S8192),
    TRef.binary (TRef.of (T := ⟨S8192, .i32⟩) main_v15) (TRef.of (T := ⟨S8192, .i32⟩) main_call5_v7) (TRef.of (T := ⟨S8192, .i32⟩) main_call5_v8) Host.remsi,
    TRef.nullary (TRef.of (T := ⟨S_, .i32⟩) main_call5_c) (constantI S_ 32 0#32),
    TRef.unary (TRef.of (T := ⟨S_, .i32⟩) main_call5_c) (TRef.of (T := ⟨S8192, .i32⟩) main_call5_v9) (broadcastInDim S8192 ![] bcast_S_S8192),
    TRef.binary (TRef.of (T := ⟨S8192, .i32⟩) main_call5_v8) (TRef.of (T := ⟨S8192, .i32⟩) main_call5_v9) (TRef.of (T := ⟨S8192, .i1⟩) main_call5_v10) (cmpi .ne),
    TRef.binary (TRef.of (T := ⟨S8192, .i1⟩) main_call5_v6) (TRef.of (T := ⟨S8192, .i1⟩) main_call5_v10) (TRef.of (T := ⟨S8192, .i1⟩) main_call5_v11) andi,
    TRef.nullary (TRef.of (T := ⟨S_, .i32⟩) main_call5_c_0) (constantI S_ 32 1#32),
    TRef.unary (TRef.of (T := ⟨S_, .i32⟩) main_call5_c_0) (TRef.of (T := ⟨S8192, .i32⟩) main_call5_v12) (broadcastInDim S8192 ![] bcast_S_S8192),
    TRef.binary (TRef.of (T := ⟨S8192, .i32⟩) main_call5_v2) (TRef.of (T := ⟨S8192, .i32⟩) main_call5_v12) (TRef.of (T := ⟨S8192, .i32⟩) main_call5_v13) subi,
    TRef.ternary (TRef.of (T := ⟨S8192, .i1⟩) main_call5_v11) (TRef.of (T := ⟨S8192, .i32⟩) main_call5_v13) (TRef.of (T := ⟨S8192, .i32⟩) main_call5_v2) (TRef.of (T := ⟨S8192, .i32⟩) main_v16) select ]

def floorDivW : List (Ref sig .tc) := [main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v16]

set_option maxRecDepth 8192 in
theorem floorDiv_line : Line (F := F) floorDiv floorDivW := by
  refine ⟨?_, forall_writes_sub_of_map rfl, forall_fresh_of_map rfl⟩
  simp only [floorDiv, List.Forall, nullary_bufs_sub, unary_bufs_sub, binary_bufs_sub, ternary_bufs_sub, reshape_bufs_sub, and_self]

set_option maxRecDepth 8192 in
theorem floorDiv_eq : (fn_floor_divide.body (.of main_v15) (.of main_c_4) main_call5 : Part F) = seq floorDiv := rfl

/-- The length. -/
def len : List (HloOp τ sig (Elt F)) :=
  [ nullary main_c_5 (constantI S_ 32 8192#32) ]

def lenW : List (Ref sig .tc) := [main_c_5]

set_option maxRecDepth 8192 in
theorem len_line : Line (F := F) len lenW := by
  refine ⟨?_, forall_writes_sub_of_map rfl, forall_fresh_of_map rfl⟩
  simp only [len, List.Forall, nullary_bufs_sub, unary_bufs_sub, binary_bufs_sub, ternary_bufs_sub, reshape_bufs_sub, and_self]

/-- The remainder by the length. -/
def remain : List (HloOp τ sig (Elt F)) :=
  [ TRef.unary (TRef.of (T := ⟨S_, .i32⟩) main_c_5) (TRef.of (T := ⟨S_, .i32⟩) main_call6_v0) id,
    TRef.nullary (TRef.of (T := ⟨S_, .i32⟩) main_call6_c) (constantI S_ 32 0#32),
    TRef.binary (TRef.of (T := ⟨S_, .i32⟩) main_call6_v0) (TRef.of (T := ⟨S_, .i32⟩) main_call6_c) (TRef.of (T := ⟨S_, .i1⟩) main_call6_v1) (cmpi .eq),
    TRef.nullary (TRef.of (T := ⟨S_, .i32⟩) main_call6_c_0) (constantI S_ 32 1#32),
    TRef.ternary (TRef.of (T := ⟨S_, .i1⟩) main_call6_v1) (TRef.of (T := ⟨S_, .i32⟩) main_call6_c_0) (TRef.of (T := ⟨S_, .i32⟩) main_call6_v0) (TRef.of (T := ⟨S_, .i32⟩) main_call6_v2) select,
    TRef.unary (TRef.of (T := ⟨S_, .i32⟩) main_call6_v2) (TRef.of (T := ⟨S8192, .i32⟩) main_call6_v3) (broadcastInDim S8192 ![] bcast_S_S8192),
    TRef.binary (TRef.of (T := ⟨S8192, .i32⟩) main_v16) (TRef.of (T := ⟨S8192, .i32⟩) main_call6_v3) (TRef.of (T := ⟨S8192, .i32⟩) main_call6_v4) Host.remsi,
    TRef.nullary (TRef.of (T := ⟨S_, .i32⟩) main_call6_c_1) (constantI S_ 32 0#32),
    TRef.unary (TRef.of (T := ⟨S_, .i32⟩) main_call6_c_1) (TRef.of (T := ⟨S8192, .i32⟩) main_call6_v5) (broadcastInDim S8192 ![] bcast_S_S8192),
    TRef.binary (TRef.of (T := ⟨S8192, .i32⟩) main_call6_v4) (TRef.of (T := ⟨S8192, .i32⟩) main_call6_v5) (TRef.of (T := ⟨S8192, .i1⟩) main_call6_v6) (cmpi .ne),
    TRef.nullary (TRef.of (T := ⟨S_, .i32⟩) main_call6_c_2) (constantI S_ 32 0#32),
    TRef.unary (TRef.of (T := ⟨S_, .i32⟩) main_call6_c_2) (TRef.of (T := ⟨S8192, .i32⟩) main_call6_v7) (broadcastInDim S8192 ![] bcast_S_S8192),
    TRef.binary (TRef.of (T := ⟨S8192, .i32⟩) main_call6_v4) (TRef.of (T := ⟨S8192, .i32⟩) main_call6_v7) (TRef.of (T := ⟨S8192, .i1⟩) main_call6_v8) (cmpi .slt),
    TRef.nullary (TRef.of (T := ⟨S_, .i32⟩) main_call6_c_3) (constantI S_ 32 0#32),
    TRef.binary (TRef.of (T := ⟨S_, .i32⟩) main_call6_v2) (TRef.of (T := ⟨S_, .i32⟩) main_call6_c_3) (TRef.of (T := ⟨S_, .i1⟩) main_call6_v9) (cmpi .slt),
    TRef.unary (TRef.of (T := ⟨S_, .i1⟩) main_call6_v9) (TRef.of (T := ⟨S8192, .i1⟩) main_call6_v10) (broadcastInDim S8192 ![] bcast_S_S8192),
    TRef.binary (TRef.of (T := ⟨S8192, .i1⟩) main_call6_v8) (TRef.of (T := ⟨S8192, .i1⟩) main_call6_v10) (TRef.of (T := ⟨S8192, .i1⟩) main_call6_v11) (cmpi .ne),
    TRef.binary (TRef.of (T := ⟨S8192, .i1⟩) main_call6_v11) (TRef.of (T := ⟨S8192, .i1⟩) main_call6_v6) (TRef.of (T := ⟨S8192, .i1⟩) main_call6_v12) andi,
    TRef.unary (TRef.of (T := ⟨S_, .i32⟩) main_call6_v2) (TRef.of (T := ⟨S8192, .i32⟩) main_call6_v13) (broadcastInDim S8192 ![] bcast_S_S8192),
    TRef.binary (TRef.of (T := ⟨S8192, .i32⟩) main_call6_v4) (TRef.of (T := ⟨S8192, .i32⟩) main_call6_v13) (TRef.of (T := ⟨S8192, .i32⟩) main_call6_v14) addi,
    TRef.ternary (TRef.of (T := ⟨S8192, .i1⟩) main_call6_v12) (TRef.of (T := ⟨S8192, .i32⟩) main_call6_v14) (TRef.of (T := ⟨S8192, .i32⟩) main_call6_v4) (TRef.of (T := ⟨S8192, .i32⟩) main_v17) select ]

def remainW : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v17]

set_option maxRecDepth 8192 in
theorem remain_line : Line (F := F) remain remainW := by
  refine ⟨?_, forall_writes_sub_of_map rfl, forall_fresh_of_map rfl⟩
  simp only [remain, List.Forall, nullary_bufs_sub, unary_bufs_sub, binary_bufs_sub, ternary_bufs_sub, reshape_bufs_sub, and_self]

set_option maxRecDepth 8192 in
theorem remain_eq : (fn_remainder.body (.of main_v16) (.of main_c_5) main_call6 : Part F) = seq remain := rfl

/-- Which places lie past the last kind. -/
def pastEnd : List (HloOp τ sig (Elt F)) :=
  [ unary main_v4_1 main_v18 ((extui 32 · natLt_1_32) : (⟨S8192, .i1⟩ : BufTy).Contents (Elt F) → (⟨S8192, .i32⟩ : BufTy).Contents (Elt F)),
    nullary main_c_6 (constantI S_ 32 0#32),
    binary main_v18 main_c_6 main_v19 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    unary main_v19 main_v20 (broadcastInDim S1 ![] bcast_S_S1 : (⟨S_, .i32⟩ : BufTy).Contents (Elt F) → (⟨S1, .i32⟩ : BufTy).Contents (Elt F)),
    nullary main_v21 (iotaInDim S8192 32 0),
    unary main_v20 main_v22 (broadcastInDim S8192 ![0] bcast_S1_S8192_0 : (⟨S1, .i32⟩ : BufTy).Contents (Elt F) → (⟨S8192, .i32⟩ : BufTy).Contents (Elt F)),
    binary main_v21 main_v22 main_v23 (cmpi .sge : (⟨S8192, .i32⟩ : BufTy).Contents (Elt F) → (⟨S8192, .i32⟩ : BufTy).Contents (Elt F) → (⟨S8192, .i1⟩ : BufTy).Contents (Elt F)),
    nullary main_c_7 (constantI S_ 32 0#32) ]

def pastEndW : List (Ref sig .tc) := [main_v18, main_c_6, main_v19, main_v20, main_v21, main_v22, main_v23, main_c_7]

set_option maxRecDepth 8192 in
theorem pastEnd_line : Line (F := F) pastEnd pastEndW := by
  refine ⟨?_, forall_writes_sub_of_map rfl, forall_fresh_of_map rfl⟩
  simp only [pastEnd, List.Forall, nullary_bufs_sub, unary_bufs_sub, binary_bufs_sub, ternary_bufs_sub, reshape_bufs_sub, and_self]

/-- The places past the last kind, at zero. -/
def whereIdx : List (HloOp τ sig (Elt F)) :=
  [ TRef.unary (TRef.of (T := ⟨S_, .i32⟩) main_c_7) (TRef.of (T := ⟨S_, .i32⟩) main_call7_v0) id,
    TRef.unary (TRef.of (T := ⟨S_, .i32⟩) main_call7_v0) (TRef.of (T := ⟨S8192, .i32⟩) main_call7_v1) (broadcastInDim S8192 ![] bcast_S_S8192),
    TRef.ternary (TRef.of (T := ⟨S8192, .i1⟩) main_v23) (TRef.of (T := ⟨S8192, .i32⟩) main_call7_v1) (TRef.of (T := ⟨S8192, .i32⟩) main_v17) (TRef.of (T := ⟨S8192, .i32⟩) main_v24) select ]

def whereIdxW : List (Ref sig .tc) := [main_call7_v0, main_call7_v1, main_v24]

set_option maxRecDepth 8192 in
theorem whereIdx_line : Line (F := F) whereIdx whereIdxW := by
  refine ⟨?_, forall_writes_sub_of_map rfl, forall_fresh_of_map rfl⟩
  simp only [whereIdx, List.Forall, nullary_bufs_sub, unary_bufs_sub, binary_bufs_sub, ternary_bufs_sub, reshape_bufs_sub, and_self]

set_option maxRecDepth 8192 in
theorem whereIdx_eq : (fn_where_4.body (.of main_v23) (.of main_c_7) (.of main_v17) main_call7 : Part F) = seq whereIdx := rfl

/-- The sorted centers at the places, and which places hold a kind. -/
def fetched : List (HloOp τ sig (Elt F)) :=
  [ nullary main_c_8 (constantI S_ 32 0#32),
    unary main_c_8 main_v25 (broadcastInDim S8192 ![] bcast_S_S8192 : (⟨S_, .i32⟩ : BufTy).Contents (Elt F) → (⟨S8192, .i32⟩ : BufTy).Contents (Elt F)),
    binary main_v24 main_v25 main_v26 (cmpi .slt : (⟨S8192, .i32⟩ : BufTy).Contents (Elt F) → (⟨S8192, .i32⟩ : BufTy).Contents (Elt F) → (⟨S8192, .i1⟩ : BufTy).Contents (Elt F)),
    nullary main_c_9 (constantI S_ 32 8192#32),
    unary main_c_9 main_v27 (broadcastInDim S8192 ![] bcast_S_S8192 : (⟨S_, .i32⟩ : BufTy).Contents (Elt F) → (⟨S8192, .i32⟩ : BufTy).Contents (Elt F)),
    binary main_v24 main_v27 main_v28 (addi : (⟨S8192, .i32⟩ : BufTy).Contents (Elt F) → (⟨S8192, .i32⟩ : BufTy).Contents (Elt F) → (⟨S8192, .i32⟩ : BufTy).Contents (Elt F)),
    ternary main_v26 main_v28 main_v24 main_v29 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v29 main_v30 (broadcastInDim S8192x1 ![0] bcast_S8192_S8192x1_0 : (⟨S8192, .i32⟩ : BufTy).Contents (Elt F) → (⟨S8192x1, .i32⟩ : BufTy).Contents (Elt F)),
    binary main_v4_0 main_v30 main_v31 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    nullary main_v32 (iotaInDim S8192 32 0),
    unary main_v4_1 main_v33 ((extui 32 · natLt_1_32) : (⟨S8192, .i1⟩ : BufTy).Contents (Elt F) → (⟨S8192, .i32⟩ : BufTy).Contents (Elt F)),
    nullary main_c_10 (constantI S_ 32 0#32),
    binary main_v33 main_c_10 main_v34 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    unary main_v34 main_v35 (broadcastInDim S8192 ![] bcast_S_S8192 : (⟨S_, .i32⟩ : BufTy).Contents (Elt F) → (⟨S8192, .i32⟩ : BufTy).Contents (Elt F)),
    binary main_v32 main_v35 main_v36 (cmpi .slt : (⟨S8192, .i32⟩ : BufTy).Contents (Elt F) → (⟨S8192, .i32⟩ : BufTy).Contents (Elt F) → (⟨S8192, .i1⟩ : BufTy).Contents (Elt F)) ]

def fetchedW : List (Ref sig .tc) := [main_c_8, main_v25, main_v26, main_c_9, main_v27, main_v28, main_v29, main_v30, main_v31, main_v32, main_v33, main_c_10, main_v34, main_v35, main_v36]

set_option maxRecDepth 8192 in
theorem fetched_line : Line (F := F) fetched fetchedW := by
  refine ⟨?_, forall_writes_sub_of_map rfl, forall_fresh_of_map rfl⟩
  simp only [fetched, List.Forall, nullary_bufs_sub, unary_bufs_sub, binary_bufs_sub, ternary_bufs_sub, reshape_bufs_sub, and_self]

/-- The places past the last kind, filled. -/
def whereFill : List (HloOp τ sig (Elt F)) :=
  [ TRef.unary (TRef.of (T := ⟨S_, .i32⟩) main_v3) (TRef.of (T := ⟨S8192, .i32⟩) main_call8_v0) (broadcastInDim S8192 ![] bcast_S_S8192),
    TRef.ternary (TRef.of (T := ⟨S8192, .i1⟩) main_v36) (TRef.of (T := ⟨S8192, .i32⟩) main_v31) (TRef.of (T := ⟨S8192, .i32⟩) main_call8_v0) (TRef.of (T := ⟨S8192, .i32⟩) main_v37) select ]

def whereFillW : List (Ref sig .tc) := [main_call8_v0, main_v37]

set_option maxRecDepth 8192 in
theorem whereFill_line : Line (F := F) whereFill whereFillW := by
  refine ⟨?_, forall_writes_sub_of_map rfl, forall_fresh_of_map rfl⟩
  simp only [whereFill, List.Forall, nullary_bufs_sub, unary_bufs_sub, binary_bufs_sub, ternary_bufs_sub, reshape_bufs_sub, and_self]

set_option maxRecDepth 8192 in
theorem whereFill_eq : (fn_where_5.body (.of main_v36) (.of main_v31) (.of main_v3) main_call8 : Part F) = seq whereFill := rfl

/-- How many kinds are below a document's center. -/
def below : List (HloOp τ sig (Elt F)) :=
  [ unary main_v37 main_v38 (broadcastInDim S1x8192 ![1] bcast_S8192_S1x8192_1 : (⟨S8192, .i32⟩ : BufTy).Contents (Elt F) → (⟨S1x8192, .i32⟩ : BufTy).Contents (Elt F)),
    unary main_v0 main_v39 (broadcastInDim S4096x1 ![0] bcast_S4096_S4096x1_0 : (⟨S4096, .i32⟩ : BufTy).Contents (Elt F) → (⟨S4096x1, .i32⟩ : BufTy).Contents (Elt F)),
    unary main_v38 main_v40 (broadcastInDim S4096x8192 ![0, 1] bcast_S1x8192_S4096x8192_0_1 : (⟨S1x8192, .i32⟩ : BufTy).Contents (Elt F) → (⟨S4096x8192, .i32⟩ : BufTy).Contents (Elt F)),
    unary main_v39 main_v41 (broadcastInDim S4096x8192 ![0, 1] bcast_S4096x1_S4096x8192_0_1 : (⟨S4096x1, .i32⟩ : BufTy).Contents (Elt F) → (⟨S4096x8192, .i32⟩ : BufTy).Contents (Elt F)),
    binary main_v40 main_v41 main_v42 (cmpi .slt : (⟨S4096x8192, .i32⟩ : BufTy).Contents (Elt F) → (⟨S4096x8192, .i32⟩ : BufTy).Contents (Elt F) → (⟨S4096x8192, .i1⟩ : BufTy).Contents (Elt F)),
    unary main_v42 main_v43 ((extui 32 · natLt_1_32) : (⟨S4096x8192, .i1⟩ : BufTy).Contents (Elt F) → (⟨S4096x8192, .i32⟩ : BufTy).Contents (Elt F)),
    nullary main_c_11 (constantI S_ 32 0#32),
    binary main_v43 main_c_11 main_v44 ((fun x v => Host.reduce IntOp.addi x v reducesTo_S4096x8192_S4096_d1 h_S_) : (⟨S4096x8192, .i32⟩ : BufTy).Contents (Elt F) → (⟨S_, .i32⟩ : BufTy).Contents (Elt F) → (⟨S4096, .i32⟩ : BufTy).Contents (Elt F)) ]

def belowW : List (Ref sig .tc) := [main_v38, main_v39, main_v40, main_v41, main_v42, main_v43, main_c_11, main_v44]

set_option maxRecDepth 8192 in
theorem below_line : Line (F := F) below belowW := by
  refine ⟨?_, forall_writes_sub_of_map rfl, forall_fresh_of_map rfl⟩
  simp only [below, List.Forall, nullary_bufs_sub, unary_bufs_sub, binary_bufs_sub, ternary_bufs_sub, reshape_bufs_sub, and_self]

/-- The kinds and the negatives' centers, as a row and a column. -/
def spread : List (HloOp τ sig (Elt F)) :=
  [ unary main_v37 main_v45 (broadcastInDim S1x8192 ![1] bcast_S8192_S1x8192_1 : (⟨S8192, .i32⟩ : BufTy).Contents (Elt F) → (⟨S1x8192, .i32⟩ : BufTy).Contents (Elt F)),
    unary main_v1 main_v46 (broadcastInDim S4096x1 ![0] bcast_S4096_S4096x1_0 : (⟨S4096, .i32⟩ : BufTy).Contents (Elt F) → (⟨S4096x1, .i32⟩ : BufTy).Contents (Elt F)) ]

def spreadW : List (Ref sig .tc) := [main_v45, main_v46]

set_option maxRecDepth 8192 in
theorem spread_line : Line (F := F) spread spreadW := by
  refine ⟨?_, forall_writes_sub_of_map rfl, forall_fresh_of_map rfl⟩
  simp only [spread, List.Forall, nullary_bufs_sub, unary_bufs_sub, binary_bufs_sub, ternary_bufs_sub, reshape_bufs_sub, and_self]

/-- How many kinds are below a negative's center. -/
def belowOth : List (HloOp τ sig (Elt F)) :=
  [ unary main_v45 main_v47 (broadcastInDim S4096x8192 ![0, 1] bcast_S1x8192_S4096x8192_0_1 : (⟨S1x8192, .i32⟩ : BufTy).Contents (Elt F) → (⟨S4096x8192, .i32⟩ : BufTy).Contents (Elt F)),
    unary main_v46 main_v48 (broadcastInDim S4096x8192 ![0, 1] bcast_S4096x1_S4096x8192_0_1 : (⟨S4096x1, .i32⟩ : BufTy).Contents (Elt F) → (⟨S4096x8192, .i32⟩ : BufTy).Contents (Elt F)),
    binary main_v47 main_v48 main_v49 (cmpi .slt : (⟨S4096x8192, .i32⟩ : BufTy).Contents (Elt F) → (⟨S4096x8192, .i32⟩ : BufTy).Contents (Elt F) → (⟨S4096x8192, .i1⟩ : BufTy).Contents (Elt F)),
    unary main_v49 main_v50 ((extui 32 · natLt_1_32) : (⟨S4096x8192, .i1⟩ : BufTy).Contents (Elt F) → (⟨S4096x8192, .i32⟩ : BufTy).Contents (Elt F)),
    nullary main_c_12 (constantI S_ 32 0#32),
    binary main_v50 main_c_12 main_v51 ((fun x v => Host.reduce IntOp.addi x v reducesTo_S4096x8192_S4096_d1 h_S_) : (⟨S4096x8192, .i32⟩ : BufTy).Contents (Elt F) → (⟨S_, .i32⟩ : BufTy).Contents (Elt F) → (⟨S4096, .i32⟩ : BufTy).Contents (Elt F)) ]

def belowOthW : List (Ref sig .tc) := [main_v47, main_v48, main_v49, main_v50, main_c_12, main_v51]

set_option maxRecDepth 8192 in
theorem belowOth_line : Line (F := F) belowOth belowOthW := by
  refine ⟨?_, forall_writes_sub_of_map rfl, forall_fresh_of_map rfl⟩
  simp only [belowOth, List.Forall, nullary_bufs_sub, unary_bufs_sub, binary_bufs_sub, ternary_bufs_sub, reshape_bufs_sub, and_self]

/-- The vectors of the kinds. -/
def takeVec : List (HloOp τ sig (Elt F)) :=
  [ TRef.nullary (TRef.of (T := ⟨S_, .i32⟩) main_call9_c) (constantI S_ 32 0#32),
    TRef.unary (TRef.of (T := ⟨S_, .i32⟩) main_call9_c) (TRef.of (T := ⟨S8192, .i32⟩) main_call9_v0) (broadcastInDim S8192 ![] bcast_S_S8192),
    TRef.binary (TRef.of (T := ⟨S8192, .i32⟩) main_v37) (TRef.of (T := ⟨S8192, .i32⟩) main_call9_v0) (TRef.of (T := ⟨S8192, .i1⟩) main_call9_v1) (cmpi .slt),
    TRef.nullary (TRef.of (T := ⟨S_, .i32⟩) main_call9_c_0) (constantI S_ 32 65536#32),
    TRef.unary (TRef.of (T := ⟨S_, .i32⟩) main_call9_c_0) (TRef.of (T := ⟨S8192, .i32⟩) main_call9_v2) (broadcastInDim S8192 ![] bcast_S_S8192),
    TRef.binary (TRef.of (T := ⟨S8192, .i32⟩) main_v37) (TRef.of (T := ⟨S8192, .i32⟩) main_call9_v2) (TRef.of (T := ⟨S8192, .i32⟩) main_call9_v3) addi,
    TRef.ternary (TRef.of (T := ⟨S8192, .i1⟩) main_call9_v1) (TRef.of (T := ⟨S8192, .i32⟩) main_call9_v3) (TRef.of (T := ⟨S8192, .i32⟩) main_v37) (TRef.of (T := ⟨S8192, .i32⟩) main_call9_v4) select,
    TRef.unary (TRef.of (T := ⟨S8192, .i32⟩) main_call9_v4) (TRef.of (T := ⟨S8192x1, .i32⟩) main_call9_v5) (broadcastInDim S8192x1 ![0] bcast_S8192_S8192x1_0),
    TRef.nullary (TRef.of (T := ⟨S1, .i32⟩) main_call9_c_1) (constantI S1 32 65535#32),
    TRef.nullary (TRef.of (T := ⟨S_, .i32⟩) main_call9_c_2) (constantI S_ 32 0#32),
    TRef.unary (TRef.of (T := ⟨S_, .i32⟩) main_call9_c_2) (TRef.of (T := ⟨S8192x1, .i32⟩) main_call9_v6) (broadcastInDim S8192x1 ![] bcast_S_S8192x1),
    TRef.binary (TRef.of (T := ⟨S8192x1, .i32⟩) main_call9_v5) (TRef.of (T := ⟨S8192x1, .i32⟩) main_call9_v6) (TRef.of (T := ⟨S8192x1, .i1⟩) main_call9_v7) (cmpi .sge),
    TRef.unary (TRef.of (T := ⟨S1, .i32⟩) main_call9_c_1) (TRef.of (T := ⟨S1x1, .i32⟩) main_call9_v8) (broadcastInDim S1x1 ![1] bcast_S1_S1x1_1),
    TRef.unary (TRef.of (T := ⟨S1x1, .i32⟩) main_call9_v8) (TRef.of (T := ⟨S8192x1, .i32⟩) main_call9_v9) (broadcastInDim S8192x1 ![0, 1] bcast_S1x1_S8192x1_0_1),
    TRef.binary (TRef.of (T := ⟨S8192x1, .i32⟩) main_call9_v5) (TRef.of (T := ⟨S8192x1, .i32⟩) main_call9_v9) (TRef.of (T := ⟨S8192x1, .i1⟩) main_call9_v10) (cmpi .sle),
    TRef.binary (TRef.of (T := ⟨S8192x1, .i1⟩) main_call9_v7) (TRef.of (T := ⟨S8192x1, .i1⟩) main_call9_v10) (TRef.of (T := ⟨S8192x1, .i1⟩) main_call9_v11) andi,
    TRef.nullary (TRef.of (T := ⟨S_, .i1⟩) main_call9_c_3) (constantI S_ 1 1#1),
    TRef.binary (TRef.of (T := ⟨S8192x1, .i1⟩) main_call9_v11) (TRef.of (T := ⟨S_, .i1⟩) main_call9_c_3) (TRef.of (T := ⟨S8192, .i1⟩) main_call9_v12) (fun x v => Host.reduce IntOp.andi x v reducesTo_S8192x1_S8192_d1 h_S_),
    TRef.binary (TRef.of (T := ⟨S65536x128, .f32⟩) main_arg0) (TRef.of (T := ⟨S8192x1, .i32⟩) main_call9_v5) (TRef.of (T := ⟨S8192x128, .f32⟩) main_call9_v13) (fun x i => Host.gather gather_S65536x128_S8192x1_S8192x128_1_0_n_n_0_1_1128 x i),
    TRef.unary (TRef.of (T := ⟨S8192, .i1⟩) main_call9_v12) (TRef.of (T := ⟨S8192x128, .i1⟩) main_call9_v14) (broadcastInDim S8192x128 ![0] bcast_S8192_S8192x128_0),
    TRef.nullary (TRef.of (T := ⟨S_, .f32⟩) main_call9_cst) (constant S_ .f32 0x7FC00000#32),
    TRef.unary (TRef.of (T := ⟨S_, .f32⟩) main_call9_cst) (TRef.of (T := ⟨S8192x128, .f32⟩) main_call9_v15) (broadcastInDim S8192x128 ![] bcast_S_S8192x128),
    TRef.ternary (TRef.of (T := ⟨S8192x128, .i1⟩) main_call9_v14) (TRef.of (T := ⟨S8192x128, .f32⟩) main_call9_v13) (TRef.of (T := ⟨S8192x128, .f32⟩) main_call9_v15) (TRef.of (T := ⟨S8192x128, .f32⟩) main_v52) select ]

def takeVecW : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v52]

set_option maxRecDepth 8192 in
theorem takeVec_line : Line (F := F) takeVec takeVecW := by
  refine ⟨?_, forall_writes_sub_of_map rfl, forall_fresh_of_map rfl⟩
  simp only [takeVec, List.Forall, nullary_bufs_sub, unary_bufs_sub, binary_bufs_sub, ternary_bufs_sub, reshape_bufs_sub, and_self]

set_option maxRecDepth 8192 in
theorem takeVec_eq : (fn_take_6.body (.of main_arg0) (.of main_v37) main_call9 : Part F) = seq takeVec := rfl

/-- The documents' vectors. -/
def takePos : List (HloOp τ sig (Elt F)) :=
  [ TRef.nullary (TRef.of (T := ⟨S_, .i32⟩) main_call10_c) (constantI S_ 32 0#32),
    TRef.unary (TRef.of (T := ⟨S_, .i32⟩) main_call10_c) (TRef.of (T := ⟨S4096, .i32⟩) main_call10_v0) (broadcastInDim S4096 ![] bcast_S_S4096),
    TRef.binary (TRef.of (T := ⟨S4096, .i32⟩) main_v44) (TRef.of (T := ⟨S4096, .i32⟩) main_call10_v0) (TRef.of (T := ⟨S4096, .i1⟩) main_call10_v1) (cmpi .slt),
    TRef.nullary (TRef.of (T := ⟨S_, .i32⟩) main_call10_c_0) (constantI S_ 32 8192#32),
    TRef.unary (TRef.of (T := ⟨S_, .i32⟩) main_call10_c_0) (TRef.of (T := ⟨S4096, .i32⟩) main_call10_v2) (broadcastInDim S4096 ![] bcast_S_S4096),
    TRef.binary (TRef.of (T := ⟨S4096, .i32⟩) main_v44) (TRef.of (T := ⟨S4096, .i32⟩) main_call10_v2) (TRef.of (T := ⟨S4096, .i32⟩) main_call10_v3) addi,
    TRef.ternary (TRef.of (T := ⟨S4096, .i1⟩) main_call10_v1) (TRef.of (T := ⟨S4096, .i32⟩) main_call10_v3) (TRef.of (T := ⟨S4096, .i32⟩) main_v44) (TRef.of (T := ⟨S4096, .i32⟩) main_call10_v4) select,
    TRef.unary (TRef.of (T := ⟨S4096, .i32⟩) main_call10_v4) (TRef.of (T := ⟨S4096x1, .i32⟩) main_call10_v5) (broadcastInDim S4096x1 ![0] bcast_S4096_S4096x1_0),
    TRef.nullary (TRef.of (T := ⟨S1, .i32⟩) main_call10_c_1) (constantI S1 32 8191#32),
    TRef.nullary (TRef.of (T := ⟨S_, .i32⟩) main_call10_c_2) (constantI S_ 32 0#32),
    TRef.unary (TRef.of (T := ⟨S_, .i32⟩) main_call10_c_2) (TRef.of (T := ⟨S4096x1, .i32⟩) main_call10_v6) (broadcastInDim S4096x1 ![] bcast_S_S4096x1),
    TRef.binary (TRef.of (T := ⟨S4096x1, .i32⟩) main_call10_v5) (TRef.of (T := ⟨S4096x1, .i32⟩) main_call10_v6) (TRef.of (T := ⟨S4096x1, .i1⟩) main_call10_v7) (cmpi .sge),
    TRef.unary (TRef.of (T := ⟨S1, .i32⟩) main_call10_c_1) (TRef.of (T := ⟨S1x1, .i32⟩) main_call10_v8) (broadcastInDim S1x1 ![1] bcast_S1_S1x1_1),
    TRef.unary (TRef.of (T := ⟨S1x1, .i32⟩) main_call10_v8) (TRef.of (T := ⟨S4096x1, .i32⟩) main_call10_v9) (broadcastInDim S4096x1 ![0, 1] bcast_S1x1_S4096x1_0_1),
    TRef.binary (TRef.of (T := ⟨S4096x1, .i32⟩) main_call10_v5) (TRef.of (T := ⟨S4096x1, .i32⟩) main_call10_v9) (TRef.of (T := ⟨S4096x1, .i1⟩) main_call10_v10) (cmpi .sle),
    TRef.binary (TRef.of (T := ⟨S4096x1, .i1⟩) main_call10_v7) (TRef.of (T := ⟨S4096x1, .i1⟩) main_call10_v10) (TRef.of (T := ⟨S4096x1, .i1⟩) main_call10_v11) andi,
    TRef.nullary (TRef.of (T := ⟨S_, .i1⟩) main_call10_c_3) (constantI S_ 1 1#1),
    TRef.binary (TRef.of (T := ⟨S4096x1, .i1⟩) main_call10_v11) (TRef.of (T := ⟨S_, .i1⟩) main_call10_c_3) (TRef.of (T := ⟨S4096, .i1⟩) main_call10_v12) (fun x v => Host.reduce IntOp.andi x v reducesTo_S4096x1_S4096_d1 h_S_),
    TRef.binary (TRef.of (T := ⟨S8192x128, .f32⟩) main_v52) (TRef.of (T := ⟨S4096x1, .i32⟩) main_call10_v5) (TRef.of (T := ⟨S4096x128, .f32⟩) main_call10_v13) (fun x i => Host.gather gather_S8192x128_S4096x1_S4096x128_1_0_n_n_0_1_1128 x i),
    TRef.unary (TRef.of (T := ⟨S4096, .i1⟩) main_call10_v12) (TRef.of (T := ⟨S4096x128, .i1⟩) main_call10_v14) (broadcastInDim S4096x128 ![0] bcast_S4096_S4096x128_0),
    TRef.nullary (TRef.of (T := ⟨S_, .f32⟩) main_call10_cst) (constant S_ .f32 0x7FC00000#32),
    TRef.unary (TRef.of (T := ⟨S_, .f32⟩) main_call10_cst) (TRef.of (T := ⟨S4096x128, .f32⟩) main_call10_v15) (broadcastInDim S4096x128 ![] bcast_S_S4096x128),
    TRef.ternary (TRef.of (T := ⟨S4096x128, .i1⟩) main_call10_v14) (TRef.of (T := ⟨S4096x128, .f32⟩) main_call10_v13) (TRef.of (T := ⟨S4096x128, .f32⟩) main_call10_v15) (TRef.of (T := ⟨S4096x128, .f32⟩) main_v53) select ]

def takePosW : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v53]

set_option maxRecDepth 8192 in
theorem takePos_line : Line (F := F) takePos takePosW := by
  refine ⟨?_, forall_writes_sub_of_map rfl, forall_fresh_of_map rfl⟩
  simp only [takePos, List.Forall, nullary_bufs_sub, unary_bufs_sub, binary_bufs_sub, ternary_bufs_sub, reshape_bufs_sub, and_self]

set_option maxRecDepth 8192 in
theorem takePos_eq : (fn_take_7.body (.of main_v52) (.of main_v44) main_call10 : Part F) = seq takePos := rfl

/-- The negatives' vectors. -/
def takeOth : List (HloOp τ sig (Elt F)) :=
  [ TRef.nullary (TRef.of (T := ⟨S_, .i32⟩) main_call11_c) (constantI S_ 32 0#32),
    TRef.unary (TRef.of (T := ⟨S_, .i32⟩) main_call11_c) (TRef.of (T := ⟨S4096, .i32⟩) main_call11_v0) (broadcastInDim S4096 ![] bcast_S_S4096),
    TRef.binary (TRef.of (T := ⟨S4096, .i32⟩) main_v51) (TRef.of (T := ⟨S4096, .i32⟩) main_call11_v0) (TRef.of (T := ⟨S4096, .i1⟩) main_call11_v1) (cmpi .slt),
    TRef.nullary (TRef.of (T := ⟨S_, .i32⟩) main_call11_c_0) (constantI S_ 32 8192#32),
    TRef.unary (TRef.of (T := ⟨S_, .i32⟩) main_call11_c_0) (TRef.of (T := ⟨S4096, .i32⟩) main_call11_v2) (broadcastInDim S4096 ![] bcast_S_S4096),
    TRef.binary (TRef.of (T := ⟨S4096, .i32⟩) main_v51) (TRef.of (T := ⟨S4096, .i32⟩) main_call11_v2) (TRef.of (T := ⟨S4096, .i32⟩) main_call11_v3) addi,
    TRef.ternary (TRef.of (T := ⟨S4096, .i1⟩) main_call11_v1) (TRef.of (T := ⟨S4096, .i32⟩) main_call11_v3) (TRef.of (T := ⟨S4096, .i32⟩) main_v51) (TRef.of (T := ⟨S4096, .i32⟩) main_call11_v4) select,
    TRef.unary (TRef.of (T := ⟨S4096, .i32⟩) main_call11_v4) (TRef.of (T := ⟨S4096x1, .i32⟩) main_call11_v5) (broadcastInDim S4096x1 ![0] bcast_S4096_S4096x1_0),
    TRef.nullary (TRef.of (T := ⟨S1, .i32⟩) main_call11_c_1) (constantI S1 32 8191#32),
    TRef.nullary (TRef.of (T := ⟨S_, .i32⟩) main_call11_c_2) (constantI S_ 32 0#32),
    TRef.unary (TRef.of (T := ⟨S_, .i32⟩) main_call11_c_2) (TRef.of (T := ⟨S4096x1, .i32⟩) main_call11_v6) (broadcastInDim S4096x1 ![] bcast_S_S4096x1),
    TRef.binary (TRef.of (T := ⟨S4096x1, .i32⟩) main_call11_v5) (TRef.of (T := ⟨S4096x1, .i32⟩) main_call11_v6) (TRef.of (T := ⟨S4096x1, .i1⟩) main_call11_v7) (cmpi .sge),
    TRef.unary (TRef.of (T := ⟨S1, .i32⟩) main_call11_c_1) (TRef.of (T := ⟨S1x1, .i32⟩) main_call11_v8) (broadcastInDim S1x1 ![1] bcast_S1_S1x1_1),
    TRef.unary (TRef.of (T := ⟨S1x1, .i32⟩) main_call11_v8) (TRef.of (T := ⟨S4096x1, .i32⟩) main_call11_v9) (broadcastInDim S4096x1 ![0, 1] bcast_S1x1_S4096x1_0_1),
    TRef.binary (TRef.of (T := ⟨S4096x1, .i32⟩) main_call11_v5) (TRef.of (T := ⟨S4096x1, .i32⟩) main_call11_v9) (TRef.of (T := ⟨S4096x1, .i1⟩) main_call11_v10) (cmpi .sle),
    TRef.binary (TRef.of (T := ⟨S4096x1, .i1⟩) main_call11_v7) (TRef.of (T := ⟨S4096x1, .i1⟩) main_call11_v10) (TRef.of (T := ⟨S4096x1, .i1⟩) main_call11_v11) andi,
    TRef.nullary (TRef.of (T := ⟨S_, .i1⟩) main_call11_c_3) (constantI S_ 1 1#1),
    TRef.binary (TRef.of (T := ⟨S4096x1, .i1⟩) main_call11_v11) (TRef.of (T := ⟨S_, .i1⟩) main_call11_c_3) (TRef.of (T := ⟨S4096, .i1⟩) main_call11_v12) (fun x v => Host.reduce IntOp.andi x v reducesTo_S4096x1_S4096_d1 h_S_),
    TRef.binary (TRef.of (T := ⟨S8192x128, .f32⟩) main_v52) (TRef.of (T := ⟨S4096x1, .i32⟩) main_call11_v5) (TRef.of (T := ⟨S4096x128, .f32⟩) main_call11_v13) (fun x i => Host.gather gather_S8192x128_S4096x1_S4096x128_1_0_n_n_0_1_1128 x i),
    TRef.unary (TRef.of (T := ⟨S4096, .i1⟩) main_call11_v12) (TRef.of (T := ⟨S4096x128, .i1⟩) main_call11_v14) (broadcastInDim S4096x128 ![0] bcast_S4096_S4096x128_0),
    TRef.nullary (TRef.of (T := ⟨S_, .f32⟩) main_call11_cst) (constant S_ .f32 0x7FC00000#32),
    TRef.unary (TRef.of (T := ⟨S_, .f32⟩) main_call11_cst) (TRef.of (T := ⟨S4096x128, .f32⟩) main_call11_v15) (broadcastInDim S4096x128 ![] bcast_S_S4096x128),
    TRef.ternary (TRef.of (T := ⟨S4096x128, .i1⟩) main_call11_v14) (TRef.of (T := ⟨S4096x128, .f32⟩) main_call11_v13) (TRef.of (T := ⟨S4096x128, .f32⟩) main_call11_v15) (TRef.of (T := ⟨S4096x128, .f32⟩) main_v54) select ]

def takeOthW : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v54]

set_option maxRecDepth 8192 in
theorem takeOth_line : Line (F := F) takeOth takeOthW := by
  refine ⟨?_, forall_writes_sub_of_map rfl, forall_fresh_of_map rfl⟩
  simp only [takeOth, List.Forall, nullary_bufs_sub, unary_bufs_sub, binary_bufs_sub, ternary_bufs_sub, reshape_bufs_sub, and_self]

set_option maxRecDepth 8192 in
theorem takeOth_eq : (fn_take_7.body (.of main_v52) (.of main_v51) main_call11 : Part F) = seq takeOth := rfl

/-- Part 0. -/
def part0 : List (HloOp τ sig (Elt F)) := takeDoc ++ (takeNeg ++ (joined ++ (uniq ++ (count ++ (scattered ++ (cums ++ (one ++ (floorDiv ++ (len ++ (remain ++ (pastEnd ++ (whereIdx ++ (fetched ++ (whereFill ++ (below ++ (spread))))))))))))))))

set_option maxRecDepth 8192 in
set_option maxHeartbeats 4000000 in
theorem part0_eq (c : Dev nD) : main_part0 (F := F) c = seq part0 := by
  simp only [main_part0, part0, seq_append, takeDoc_eq, takeNeg_eq, uniq_eq, count_eq, cums_eq, floorDiv_eq, remain_eq, whereIdx_eq, whereFill_eq]
  simp only [joined, scattered, one, len, pastEnd, fetched, below, spread, seq, bind_assoc, pure_bind, bind_pure_unit]
  rfl

/-- Part 1. -/
def part1 : List (HloOp τ sig (Elt F)) := belowOth ++ (takeVec ++ (takePos ++ (takeOth)))

set_option maxRecDepth 8192 in
set_option maxHeartbeats 4000000 in
theorem part1_eq (c : Dev nD) : main_part1 (F := F) c = seq part1 := by
  simp only [main_part1, part1, seq_append, takeVec_eq, takePos_eq, takeOth_eq]
  simp only [belowOth, seq, bind_assoc, pure_bind, bind_pure_unit]

/-- All of it. -/
def ops : List (HloOp τ sig (Elt F)) := part0 ++ part1

theorem main_eq (c : Dev nD) : main (F := F) c = seq ops := by
  rw [ops, seq_append, ← part0_eq c, ← part1_eq c]; rfl

def part0W : List (Ref sig .tc) := takeDocW ++ (takeNegW ++ (joinedW ++ (uniqW ++ (countW ++ (scatteredW ++ (cumsW ++ (oneW ++ (floorDivW ++ (lenW ++ (remainW ++ (pastEndW ++ (whereIdxW ++ (fetchedW ++ (whereFillW ++ (belowW ++ (spreadW))))))))))))))))

theorem part0_line : Line (F := F) part0 part0W :=
  takeDoc_line.append (takeNeg_line.append (joined_line.append (uniq_line.append (count_line.append (scattered_line.append (cums_line.append (one_line.append (floorDiv_line.append (len_line.append (remain_line.append (pastEnd_line.append (whereIdx_line.append (fetched_line.append (whereFill_line.append (below_line.append (spread_line))))))))))))))))

def part1W : List (Ref sig .tc) := belowOthW ++ (takeVecW ++ (takePosW ++ (takeOthW)))

theorem part1_line : Line (F := F) part1 part1W :=
  belowOth_line.append (takeVec_line.append (takePos_line.append (takeOth_line)))

theorem ops_line : Line (F := F) ops (part0W ++ part1W) := part0_line.append part1_line

/-- The program writes none of its arguments, and every buffer ends at what the operations, in order, leave there. -/
theorem run (m : (ℓ : Loc nD τ sig) → Buf (Elt F) ℓ) (ρ : Dev nD → PrngReg) :
    θ_run defs (onTc (τ := τ) (main (F := F))) ⟨m, fun _ => 0, ρ⟩ fun r => ∀ d : Dev nD,
      (∀ b : Ref sig .tc, r.2.mem ((d.tc : Thread nD τ).loc b) = after ops (launchContents m d) (Proc.devRef .tc b))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3) :=
  (θ_run defs _ _).mono (fun _ h d => ⟨h d, (h d main_arg0).trans (ops_line.keep _ main_arg0 (by decide)),
      (h d main_arg1).trans (ops_line.keep _ main_arg1 (by decide)), (h d main_arg2).trans (ops_line.keep _ main_arg2 (by decide)),
      (h d main_arg3).trans (ops_line.keep _ main_arg3 (by decide))⟩)
    (run_seq (by decide) (by decide) defs main (fun _ => ops) main_eq (fun _ => ops_line.sub) m ρ fun _ => List.forall_iff_forall_mem.1 ops_line.fresh)

end Cert.Proof.OfReference

end
-- ==== Proof.RefTake.lean ====
/-
  Indexing as the reference does it, at any extents: negative indices wrapped around, the index put in a column, a mark of which
  indices lie inside, and the entries (or rows) at the indices with a filler where the index lies outside. On indices inside it is
  the plain read.
-/
module

public import Idealize.ShloMosaic.Lib.ReduceAll
public import Idealize.ShloMosaic.Lib.Routing.OpsSearch
public import Idealize.ShloMosaic.Lib.Routing.OpsOne

@[expose] public section

noncomputable section

namespace Cert.Proof.Take

open Idealize.ShloMosaic Idealize.ShloMosaic.ValueIdx Idealize.ShloMosaic.Routing Idealize.ShloMosaic.WordCmp

section Column
variable {n : ℕ} (h0 : shape0.BroadcastsInDim (shape1 n) (![] : Fin 0 → Fin (shape1 n).rank))
  (h1 : (shape1 n).BroadcastsInDim (shape2 n 1) (![0] : Fin 1 → Fin (shape2 n 1).rank))

/-- The indices, the negative ones increased by the extent, as a column. -/
def column (R : BitVec 32) (ids : IVec (shape1 n) 32) : IVec (shape2 n 1) 32 :=
  broadcastInDim (shape2 n 1) ![0] h1 (select (cmpi .slt ids (broadcastInDim (shape1 n) ![] h0 (constantI shape0 32 0#32)))
    (addi ids (broadcastInDim (shape1 n) ![] h0 (constantI shape0 32 R))) ids)

/-- An index that is not negative stays. -/
theorem column_at (R : BitVec 32) (ids : IVec (shape1 n) 32) (p : Fin n) (h : (ids (ix1 p)).toNat < 2 ^ 31) :
    column h0 h1 R ids (ix2 p (0 : Fin 1)) = ids (ix1 p) := by
  unfold column
  rw [bcCol]
  show Scalar.select (IntOp.cmpi .slt (ids (ix1 p)) (broadcastInDim (shape1 n) ![] h0 (constantI shape0 32 0#32) (ix1 p))) _ _ = _
  rw [bc0]
  exact wrap_of_lt _ _ h

end Column

section Inside
variable {n : ℕ} (h0 : shape0.BroadcastsInDim (shape2 n 1) (![] : Fin 0 → Fin (shape2 n 1).rank))
  (h1 : (shape1 1).BroadcastsInDim (shape2 1 1) (![1] : Fin 1 → Fin (shape2 1 1).rank))
  (h2 : (shape2 1 1).BroadcastsInDim (shape2 n 1) (![0, 1] : Fin 2 → Fin (shape2 n 1).rank))
  (hr : (shape2 n 1).ReducesTo [1] (shape1 n)) (hu : 0 < shape0.numel)

/-- The mark of the indices from zero to the last. -/
def inside (last : BitVec 32) (col : IVec (shape2 n 1) 32) : IVec (shape1 n) 1 :=
  Host.reduce IntOp.andi (andi (cmpi .sge col (broadcastInDim (shape2 n 1) ![] h0 (constantI shape0 32 0#32)))
    (cmpi .sle col (broadcastInDim (shape2 n 1) ![0, 1] h2 (broadcastInDim (shape2 1 1) ![1] h1 (constantI (shape1 1) 32 last)))))
    (constantI shape0 1 1#1) hr hu

/-- An index inside is marked. -/
theorem inside_at (L : ℕ) (hL : L < 2 ^ 31) (col : IVec (shape2 n 1) 32) (p : Fin n) (h : (col (ix2 p (0 : Fin 1))).toNat ≤ L) :
    inside h0 h1 h2 hr hu (BitVec.ofNat 32 L) col (ix1 p) = 1#1 := by
  unfold inside
  rw [Host.reduce_eq_foldl]
  refine IntOp.foldl_andi_one _ _ _ rfl fun i hi => ?_
  have hd : hr.drop i = ix1 p := by simpa using (List.mem_filter.1 hi).2
  have h00 : (i 0).val = p.val := by
    have e := hr.drop_apply_val_of_eq i (0 : Fin 1) (0 : Fin 2) Nat.zero_lt_one rfl
    rw [hd] at e
    exact e.symm
  have hip : i = ix2 p (0 : Fin 1) := by
    rw [eq_ix2 i]
    congr 1
    · exact Fin.ext h00
    · exact Fin.ext (Nat.lt_one_iff.1 (i 1).isLt)
  subst hip
  show IntOp.andi (IntOp.cmpi .sge (col (ix2 p (0 : Fin 1))) (broadcastInDim (shape2 n 1) ![] h0 (constantI shape0 32 0#32) (ix2 p (0 : Fin 1))))
    (IntOp.cmpi .sle (col (ix2 p (0 : Fin 1))) (BitVec.ofNat 32 L)) = 1#1
  have hx : (col (ix2 p (0 : Fin 1))).toNat < 2 ^ 31 := by omega
  have e1 : IntOp.cmpi .sge (col (ix2 p (0 : Fin 1))) 0#32 = 1#1 := by
    rw [cmpi_sge_zero, decide_eq_true hx]
    rfl
  have e2 : IntOp.cmpi .sle (col (ix2 p (0 : Fin 1))) (BitVec.ofNat 32 L) = 1#1 := by
    rw [cmpi_sle_eq, toInt_ofNat_of_lt (w := 32) hL, toInt_eq_toNat_of_lt_half (w := 32) hx, decide_eq_true (by omega)]
    rfl
  rw [bc0, IntOp.andi_eq_one]
  exact ⟨e1, e2⟩

end Inside

section Entries
variable {R n : ℕ} (d : GatherDims (shape1 R) (shape2 n 1) (shape1 n)) (hcoll : d.collapsedSliceDims = [0]) (hob : d.operandBatchingDims = [])
  (hsim : d.startIndexMap = [0]) (hivd : d.indexVectorDim = 1)

include hcoll hob hsim hivd in
/-- The entries at indices inside. -/
theorem entries_at {α : Type} (x : (shape1 R).Idx → α) (col : IVec (shape2 n 1) 32) (p : Fin n) (h : (col (ix2 p (0 : Fin 1))).toNat < R)
    (h31 : R ≤ 2 ^ 31) : Host.gather d x col (ix1 p) = x (ix1 ⟨(col (ix2 p (0 : Fin 1))).toNat, h⟩) :=
  take_ap d hcoll hob hsim hivd x col p h (by omega) (by rw [BitVec.ofNat_toNat, BitVec.setWidth_eq])

end Entries

section Rows
variable {R C n : ℕ} (d : GatherDims (shape2 R C) (shape2 n 1) (shape2 n C)) (hoff : d.offsetDims = [1]) (hcoll : d.collapsedSliceDims = [0])
  (hob : d.operandBatchingDims = []) (hsim : d.startIndexMap = [0]) (hivd : d.indexVectorDim = 1)

include hoff hcoll hob hsim hivd in
/-- The rows at indices inside. -/
theorem rows_at {α : Type} (x : (shape2 R C).Idx → α) (col : IVec (shape2 n 1) 32) (p : Fin n) (y : Fin C) (h : (col (ix2 p (0 : Fin 1))).toNat < R)
    (h31 : R < 2 ^ 31) : Host.gather d x col (ix2 p y) = x (ix2 ⟨(col (ix2 p (0 : Fin 1))).toNat, h⟩ y) :=
  gather_row d hoff hcoll hob hsim hivd x col p y ⟨_, h⟩ (by rw [BitVec.ofNat_toNat, BitVec.setWidth_eq]) h31

end Rows

/-- A mark per row, over the row. -/
theorem spread_at {α : Type} {n m : ℕ} (h : (shape1 n).BroadcastsInDim (shape2 n m) (![0] : Fin 1 → Fin (shape2 n m).rank)) (v : (shape1 n).Idx → α) (p : Fin n)
    (q : Fin m) : broadcastInDim (shape2 n m) ![0] h v (ix2 p q) = v (ix1 p) := by
  refine broadcastInDim_apply _ h v _ _ fun a => ?_
  match a with
  | ⟨0, _⟩ =>
    show p.val = if n = 1 then 0 else p.val
    have := p.isLt
    split <;> omega

end Cert.Proof.Take

end
-- ==== Proof.RefList.lean ====
/-
  The first half of the reference's distinct values, at any length: the words laid out for the sort are the words, the sort's second
  result is an order of the places in which the words ascend, a word stored from the second place on, and the greatest word of a list.
-/
module

public import Idealize.ShloMosaic.Lib.SortFacts
public import Idealize.ShloMosaic.Lib.ValueLayout
public import Idealize.ShloMosaic.Lib.SortNet.Extract
public import Idealize.ShloMosaic.Lib.Pointwise.SelectCore
public import proofs.«01_k».proof.Proof.RefTake

@[expose] public section

noncomputable section

namespace Cert.Proof.Lists

open Idealize.ShloMosaic hiding ix0 ix1 ix2 ix3 eq_ix1 eq_ix2 eq_ix3
open Idealize.ShloMosaic.ValueIdx Idealize.ShloMosaic.Routing Idealize.ShloMosaic.WordCmp

/-- Two lists one after the other, at a place of the first. -/
theorem joined_left {α : Type} {n m k : ℕ} (a : (shape1 n).Idx → α) (b : (shape1 m).Idx → α)
    (h : Shape.Concatenates [shape1 n, shape1 m] (shape1 k) 0) (p : Fin n) (q : Fin k) (hq : q.val = p.val) :
    concatenate (shape1 k) 0 [⟨shape1 n, a⟩, ⟨shape1 m, b⟩] h (ix1 q) = a (ix1 p) := by
  rw [concatenate_pair_apply]
  have hlt : q.val < n := by rw [hq]; exact p.isLt
  refine (dif_pos hlt).trans (congrArg a (funext fun x => Fin.ext ?_))
  match x with
  | ⟨0, _⟩ => exact hq

/-- Two lists one after the other, at a place of the second. -/
theorem joined_right {α : Type} {n m k : ℕ} (a : (shape1 n).Idx → α) (b : (shape1 m).Idx → α)
    (h : Shape.Concatenates [shape1 n, shape1 m] (shape1 k) 0) (p : Fin m) (q : Fin k) (hq : q.val = n + p.val) :
    concatenate (shape1 k) 0 [⟨shape1 n, a⟩, ⟨shape1 m, b⟩] h (ix1 q) = b (ix1 p) := by
  rw [concatenate_pair_apply]
  have hge : ¬ q.val < n := by omega
  refine (dif_neg hge).trans (congrArg b (funext fun x => Fin.ext ?_))
  match x with
  | ⟨0, _⟩ =>
    show q.val - n = p.val
    omega

section Key
variable {n : ℕ} (hc : (shape1 n).ShapeCasts (shape2 n 1)) (ht : (shape2 n 1).Transposes [1, 0] (shape2 1 n))
  (hs : (shape2 1 n).Slices ![0, 0] (shape2 1 n)) (hb : (shape2 1 n).ShapeCasts (shape1 n))

/-- The words made a column, the column made a row, the rows (there is one) put in reverse, the first row kept. -/
def key (v : IVec (shape1 n) 32) : IVec (shape1 n) 32 :=
  shapeCast (shape1 n) (extractStridedSlice (shape2 1 n) ![0, 0] (Host.reverse [0] (transpose (shape2 1 n) [1, 0]
    (shapeCast (shape2 n 1) v hc) ht)) hs) hb

/-- That changes nothing. -/
theorem key_eq (v : IVec (shape1 n) 32) : key hc ht hs hb v = v := by
  funext i
  obtain ⟨p, rfl⟩ : ∃ p : Fin n, i = ix1 p := ⟨i 0, eq_ix1 i⟩
  unfold key
  rw [cast21 _ hb (0 : Fin 1) p p (by show p.val = 0 * n + p.val; omega),
    extractStridedSlice_apply _ _ hs (ix2 (0 : Fin 1) p) (ix2 (0 : Fin 1) p) (fun a => by
      match a with
      | ⟨0, _⟩ => rfl
      | ⟨1, _⟩ => exact (Nat.zero_add _).symm)]
  have hrev : ∀ y : IVec (shape2 1 n) 32, Host.reverse [0] y (ix2 (0 : Fin 1) p) = y (ix2 (0 : Fin 1) p) := fun y => by
    unfold Host.reverse
    refine congrArg y (funext fun a => ?_)
    match a with
    | ⟨0, _⟩ => exact Subsingleton.elim (α := Fin 1) _ _
    | ⟨1, _⟩ => exact if_neg fun h => absurd (congrArg Fin.val (List.mem_singleton.1 h)) Nat.one_ne_zero
  rw [hrev, transpose_ix2_apply, cast12 v hc p (0 : Fin 1) p (by show p.val = p.val * 1 + 0; omega)]

end Key

/-- A stable sort of words with their places, by the words: the places come out in an order in which the words ascend, and every place
comes out. -/
theorem order_of_sort {n : ℕ} (cmp : BitVec 32 × BitVec 32 → BitVec 32 × BitVec 32 → BitVec 1)
    (hcmp : ∀ l r, cmp l r = IntOp.cmpi .slt l.1 r.1) (x : IVec (shape1 n) 32) :
    ∃ σ : Fin n → Fin n, Function.Surjective σ ∧ (∀ p q, p ≤ q → (x (ix1 (σ p))).toInt ≤ (x (ix1 (σ q))).toInt)
      ∧ ∀ p, (Host.sort2 (shape1 n) 0 cmp x (iotaInDim (shape1 n) 32 0)).2 (ix1 p) = BitVec.ofNat 32 (σ p).val := by
  let B : Fin n → Fin n → Bool := fun k k' => decide ((x (ix1 k)).toInt < (x (ix1 k')).toInt)
  refine ⟨sortedFrom B, sortedFrom_surjective B, fun p q hpq => ?_, fun p => ?_⟩
  · rcases eq_or_lt_of_le hpq with rfl | hlt
    · exact le_refl _
    · have h := sortedFrom_noInversion B B (fun a b hab => decide_eq_false (by have := of_decide_eq_true hab; omega)) (fun _ _ h => h)
        (fun a b c hab hbc => decide_eq_false (by have := of_decide_eq_false hab; have := of_decide_eq_false hbc; omega)) p q hlt
      have := of_decide_eq_false h
      omega
  · have hB : (fun k k' : Fin n => cmp (x (ix1 k), BitVec.ofNat 32 k.val) (x (ix1 k'), BitVec.ofNat 32 k'.val) == 1#1) = B := by
      funext k k'
      rw [hcmp, cmpi_slt_eq]
      show (BitVec.ofBool (decide ((x (ix1 k)).toInt < (x (ix1 k')).toInt)) == 1#1) = decide ((x (ix1 k)).toInt < (x (ix1 k')).toInt)
      cases decide ((x (ix1 k)).toInt < (x (ix1 k')).toInt) <;> rfl
    have hal : ∀ k : Fin n, (ix1 p : (shape1 n).Idx).along (0 : Fin 1) k = ix1 k := fun k => by
      rw [eq_ix1 ((ix1 p : (shape1 n).Idx).along (0 : Fin 1) k)]
      exact congrArg ix1 (Function.update_self ..)
    unfold Host.sort2
    rw [dif_pos Nat.zero_lt_one]
    show BitVec.ofNat 32 (((ix1 p : (shape1 n).Idx).along (0 : Fin 1) (sortedFrom (fun k k' : Fin n =>
      cmp (x ((ix1 p : (shape1 n).Idx).along (0 : Fin 1) k), BitVec.ofNat 32 (((ix1 p : (shape1 n).Idx).along (0 : Fin 1) k) 0).val)
        (x ((ix1 p : (shape1 n).Idx).along (0 : Fin 1) k'), BitVec.ofNat 32 (((ix1 p : (shape1 n).Idx).along (0 : Fin 1) k') 0).val) == 1#1) p)) 0).val = _
    simp only [hal]
    exact congrArg (fun b => BitVec.ofNat 32 (sortedFrom b p).val) hB

/-- A list stored into a longer one from the second place on: the first place keeps what it held, place `i + 1` holds entry `i`. -/
theorem stored_at {α : Type} {n m : ℕ} (d : ScatterDims (shape1 n) (shape1 1) (shape1 m)) (hiw : d.insertedWindowDims = [])
    (hsd : d.scatterDimsToOperandDims = [0]) (hmn : m + 1 = n) (x0 : (shape1 n).Idx → α) (idx : IVec (shape1 1) 32)
    (hidx : idx (ix1 (0 : Fin 1)) = 1#32) (upd : (shape1 m).Idx → α) :
    (∀ e : Fin n, e.val = 0 → Host.scatter d (fun _ b => b) x0 idx upd (ix1 e) = x0 (ix1 e))
      ∧ ∀ (e : Fin n) (i : Fin m), e.val = i.val + 1 → Host.scatter d (fun _ b => b) x0 idx upd (ix1 e) = upd (ix1 i) := by
  have lands : ∀ (j : Fin m) (e : Fin n), d.resultIdx? (ix1 j) idx = some (ix1 e) ↔ e.val = j.val + 1 := fun j e => by
    have hstart : d.start (ix1 j) idx 0 = 1 := by
      have hmem : (0 : Fin 1) ∈ d.scatterDimsToOperandDims := by rw [hsd]; exact List.mem_cons_self
      unfold ScatterDims.start
      rw [dif_pos hmem]
      have e0 : d.siIdx (ix1 j) ⟨d.scatterDimsToOperandDims.idxOf 0, List.idxOf_lt_length_iff.2 hmem⟩ = ix1 (0 : Fin 1) := by
        rw [eq_ix1 (d.siIdx (ix1 j) _)]
        exact congrArg ix1 (Fin.ext (Nat.lt_one_iff.1 (Fin.isLt _)))
      rw [e0, hidx]
      rfl
    have hwin : d.window (ix1 j) 0 = j.val := by
      have hmem : (0 : Fin 1) ∈ d.sKept := List.mem_filter.2 ⟨List.mem_finRange _, decide_eq_true (by rw [hiw]; exact List.not_mem_nil)⟩
      unfold ScatterDims.window
      rw [dif_pos hmem]
      have any : ∀ a : Fin 1, ((ix1 j : (shape1 m).Idx) a).val = j.val := fun a => by
        match a with
        | ⟨0, _⟩ => rfl
      exact any _
    rw [resultIdx?_ix1, hstart, hwin]
    omega
  refine ⟨fun e he => scatter_set_miss d x0 idx upd _ fun k hk => ?_, fun e i he => scatter_set_hit d x0 idx upd _ _ (fun k hk => ?_) (ix1 i) ((lands i e).2 he)⟩
  · rw [eq_ix1 k] at hk
    have := (lands _ e).1 hk
    omega
  · rw [eq_ix1 k] at hk ⊢
    have := (lands _ e).1 hk
    exact congrArg (fun q : Fin m => upd (ix1 q)) (Fin.ext (by omega))

/-- A bitwise "or" over no axis at all is the mark itself. -/
theorem or_of_none {n : ℕ} (x : IVec (shape1 n) 1) (h : (shape1 n).ReducesTo [] (shape1 n)) (hu : 0 < shape0.numel) (p : Fin n) :
    Host.reduce IntOp.ori x (constantI shape0 1 0#1) h hu (ix1 p) = x (ix1 p) := by
  have hd : ∀ i : (shape1 n).Idx, h.drop i = i := fun i => by
    rw [eq_ix1 (h.drop i), eq_ix1 i]
    exact congrArg ix1 (Fin.ext (h.drop_apply_val_of_eq (ix1 (i 0)) (0 : Fin 1) (0 : Fin 1) Nat.zero_lt_one rfl))
  unfold Host.reduce
  have hf : (List.finRange (shape1 n).numel).filter (fun k => decide (h.drop ((shape1 n).rowMajor.symm k) = ix1 p)) = [(shape1 n).rowMajor (ix1 p)] := by
    have e : (fun k => decide (h.drop ((shape1 n).rowMajor.symm k) = ix1 p)) = fun k => k == (shape1 n).rowMajor (ix1 p) := by
      funext k
      rw [hd, Bool.eq_iff_iff, decide_eq_true_iff, beq_iff_eq, Equiv.symm_apply_eq]
    rw [e, List.filter_beq, List.count_eq_one_of_mem (List.nodup_finRange _) (List.mem_finRange _), List.replicate_one]
  rw [hf]
  show IntOp.ori 0#1 (x ((shape1 n).rowMajor.symm ((shape1 n).rowMajor (ix1 p)))) = _
  rw [Equiv.symm_apply_apply]
  exact BitVec.zero_or

/-- The greatest of a list of words is no less than any of them. -/
theorem le_greatest {n : ℕ} (x : IVec (shape1 n) 32) (init : IVec shape0 32) (h : (shape1 n).ReducesTo [0] shape0) (hu : 0 < shape0.numel) (i : (shape1 n).Idx) :
    (x i).toInt ≤ (Host.reduce IntOp.maxsi x init h hu ix0).toInt := by
  have fold : ∀ (l : List (Fin (shape1 n).numel)) (a : BitVec 32),
      a.toInt ≤ (l.foldl (fun r k => IntOp.maxsi r (x ((shape1 n).rowMajor.symm k))) a).toInt
        ∧ ∀ k ∈ l, (x ((shape1 n).rowMajor.symm k)).toInt ≤ (l.foldl (fun r k => IntOp.maxsi r (x ((shape1 n).rowMajor.symm k))) a).toInt := by
    intro l
    induction l with
    | nil => exact fun a => ⟨le_refl _, fun k hk => nomatch hk⟩
    | cons b l ih =>
      intro a
      obtain ⟨h1, h2⟩ := ih (IntOp.maxsi a (x ((shape1 n).rowMajor.symm b)))
      rw [SortNet.toInt_maxsi] at h1
      refine ⟨(le_max_left _ _).trans h1, fun k hk => ?_⟩
      rcases List.mem_cons.1 hk with rfl | hk
      · exact (le_max_right _ _).trans h1
      · exact h2 k hk
  have hx := (fold ((List.finRange (shape1 n).numel).filter fun k => h.drop ((shape1 n).rowMajor.symm k) = ix0) (init (Shape.Idx.first hu))).2
    ((shape1 n).rowMajor i) (List.mem_filter.2 ⟨List.mem_finRange _, decide_eq_true (funext fun a => a.elim0)⟩)
  rw [Equiv.symm_apply_apply] at hx
  exact hx

end Cert.Proof.Lists

end
-- ==== Proof.RefMath.lean ====
/-
  The arithmetic of listing the distinct values of a sorted sequence and searching for one of them, over the natural numbers.
-/
module

public import Mathlib.Order.Basic
public import Mathlib.Data.Nat.Count
public import Idealize.ShloMosaic.Lib.Routing.Count

@[expose] public section

noncomputable section

namespace Cert.Proof.Distinct

open Idealize.ShloMosaic.Routing

/-- A count of the places below `i`. -/
theorem count_below {N i : ℕ} (hi : i ≤ N) (P : ℕ → Prop) [DecidablePred P] (h : ∀ j, j < N → (P j ↔ j < i)) : Nat.count P N = i := by
  rw [count_congr_of_lt (Q := fun j => j < i) N h]
  obtain ⟨d, rfl⟩ := Nat.exists_eq_add_of_le hi
  rw [Nat.count_add, Nat.count_iff_forall.mpr fun a ha => ha, Nat.count_iff_forall_not.mpr fun a _ => Nat.not_lt.2 (Nat.le_add_right i a), Nat.add_zero]

variable {α : Type} [LinearOrder α]

/-- The place holds a value the place before it does not. -/
def First (s : ℕ → α) (i : ℕ) : Prop := i = 0 ∨ s i ≠ s (i - 1)

instance (s : ℕ → α) : DecidablePred (First s) := fun i => inferInstanceAs (Decidable (i = 0 ∨ s i ≠ s (i - 1)))

/-- The place of the `k`-th distinct value: how many places have seen at most `k`. -/
def placeOf (s : ℕ → α) (N k : ℕ) : ℕ := Nat.count (fun i => Nat.count (First s) (i + 1) ≤ k) N

/-- The `k`-th distinct value, and `top` past the last. -/
def kind (s : ℕ → α) (N : ℕ) (top : α) (k : ℕ) : α := if k < Nat.count (First s) N then s (placeOf s N k) else top

/-- The distinct values ascend. -/
theorem kind_mono (s : ℕ → α) (N : ℕ) (top : α) (hs : ∀ i j, i ≤ j → j < N → s i ≤ s j) (ht : ∀ i, i < N → s i ≤ top) {k k' : ℕ} (h : k ≤ k') :
    kind s N top k ≤ kind s N top k' := by
  unfold kind
  by_cases h' : k' < Nat.count (First s) N
  · rw [if_pos h', if_pos (h.trans_lt h')]
    exact hs _ _ (Nat.count_mono_left fun i _ hi => hi.trans h) (count_nonzero_lt _ _ _ h')
  · rw [if_neg h']
    by_cases hk : k < Nat.count (First s) N
    · rw [if_pos hk]
      exact ht _ (count_nonzero_lt _ _ _ hk)
    · rw [if_neg hk]

/-- Every value is one of them. -/
theorem kind_of_value (s : ℕ → α) (N : ℕ) (top : α) (hs : ∀ i j, i ≤ j → j < N → s i ≤ s j) {i : ℕ} (hi : i < N) :
    ∃ k, k < N ∧ kind s N top k = s i := by
  classical
  -- the first place that holds the value
  have hex : ∃ j, s j = s i := ⟨i, rfl⟩
  obtain ⟨j, hj, hmin⟩ : ∃ j, s j = s i ∧ ∀ j', j' < j → s j' ≠ s i := ⟨Nat.find hex, Nat.find_spec hex, fun _ h => Nat.find_min hex h⟩
  have hjN : j < N := (Nat.lt_of_not_le fun h => hmin i (by omega) rfl : j < i + 1).trans_le hi
  have hf : First s j := by
    rcases Nat.eq_zero_or_pos j with h | h
    · exact Or.inl h
    · exact Or.inr fun e => hmin (j - 1) (by omega) (e.symm.trans hj)
  have hstep : Nat.count (First s) (j + 1) = Nat.count (First s) j + 1 := by rw [Nat.count_succ, if_pos hf]
  have hlt : Nat.count (First s) j < Nat.count (First s) N := by
    have := Nat.count_monotone (First s) (show j + 1 ≤ N from hjN)
    omega
  refine ⟨Nat.count (First s) j, hlt.trans_le (Nat.count_le _), ?_⟩
  unfold kind
  rw [if_pos hlt, ← hj]
  congr 1
  refine count_below hjN.le _ fun l _ => ⟨fun h => ?_, fun h => Nat.count_monotone _ h⟩
  by_contra hl
  have := Nat.count_monotone (First s) (show j + 1 ≤ l + 1 by omega)
  omega

/-- In an ascending sequence, the number of entries below one of them is a place that holds it. -/
theorem place_of_count {N : ℕ} (b : ℕ → α) (hb : ∀ k k', k ≤ k' → b k ≤ b k') {k : ℕ} (hk : k < N) :
    Nat.count (fun l => b l < b k) N < N ∧ b (Nat.count (fun l => b l < b k) N) = b k := by
  classical
  have hex : ∃ j, b j = b k := ⟨k, rfl⟩
  obtain ⟨j, hj, hmin⟩ : ∃ j, b j = b k ∧ ∀ j', j' < j → b j' ≠ b k := ⟨Nat.find hex, Nat.find_spec hex, fun _ h => Nat.find_min hex h⟩
  have hjN : j < N := (Nat.lt_of_not_le fun h => hmin k (by omega) rfl : j < k + 1).trans_le hk
  have e : Nat.count (fun l => b l < b k) N = j := count_below hjN.le _ fun l _ =>
    ⟨fun h => Nat.lt_of_not_le fun hl => absurd (hb j l hl) (by rw [hj]; exact not_le.2 h),
      fun h => lt_of_le_of_ne ((hb l j h.le).trans hj.le) (hmin l h)⟩
  rw [e]
  exact ⟨hjN, hj⟩

/-- So the number of the distinct values below a value is a place that holds it. -/
theorem kind_at_count (s : ℕ → α) (N : ℕ) (top : α) (hs : ∀ i j, i ≤ j → j < N → s i ≤ s j) (ht : ∀ i, i < N → s i ≤ top) {i : ℕ} (hi : i < N) :
    Nat.count (fun l => kind s N top l < s i) N < N ∧ kind s N top (Nat.count (fun l => kind s N top l < s i) N) = s i := by
  obtain ⟨k, hk, e⟩ := kind_of_value s N top hs hi
  rw [← e]
  exact place_of_count _ (fun _ _ h => kind_mono s N top hs ht h) hk

end Cert.Proof.Distinct

end
-- ==== Proof.RefKinds.lean ====
/-
  The second half of the reference's distinct values, at any length: the running counts of first places, the places of the distinct
  values, the list of the distinct values padded with a filler, and the place of a value in it by comparisons.
-/
module

public import Idealize.ShloMosaic.Lib.Routing.Words
public import Idealize.ShloMosaic.Lib.Routing.Model
public import proofs.«01_k».proof.Proof.RefList
public import proofs.«01_k».proof.Proof.RefMath

@[expose] public section

noncomputable section

namespace Cert.Proof.Kinds

open Idealize.ShloMosaic hiding ix0 ix1 ix2 ix3 eq_ix1 eq_ix2 eq_ix3
open Idealize.ShloMosaic.ValueIdx Idealize.ShloMosaic.Routing Idealize.ShloMosaic.WordCmp Cert.Proof.Distinct Cert.Proof.Take Cert.Proof.Lists

/-- The words as integers, at any place. -/
def seqOf {N : ℕ} [NeZero N] (S : IVec (shape1 N) 32) (n : ℕ) : ℤ := (S (ix1 (Fin.ofNat N n))).toInt

theorem seqOf_val {N : ℕ} [NeZero N] (S : IVec (shape1 N) 32) (p : Fin N) : seqOf S p.val = (S (ix1 p)).toInt :=
  congrArg (fun q : Fin N => (S (ix1 q)).toInt) (Fin.ext (Nat.mod_eq_of_lt p.isLt))

theorem seqOf_lt {N : ℕ} [NeZero N] (S : IVec (shape1 N) 32) {n : ℕ} (h : n < N) : seqOf S n = (S (ix1 ⟨n, h⟩)).toInt := seqOf_val S ⟨n, h⟩

theorem toNat_small {N k : ℕ} (hN : N < 2 ^ 31) (h : k ≤ N) : (BitVec.ofNat 32 k).toNat = k := by
  rw [BitVec.toNat_ofNat]
  exact Nat.mod_eq_of_lt (by omega)

/-- The words read in the sort's order ascend, and are the same words. -/
theorem sorted_at {N : ℕ} [NeZero N] (hN : N < 2 ^ 31) (cmp : BitVec 32 × BitVec 32 → BitVec 32 × BitVec 32 → BitVec 1)
    (hcmp : ∀ l r, cmp l r = IntOp.cmpi .slt l.1 r.1) (v k : IVec (shape1 N) 32) (hk : k = v)
    (h0 : shape0.BroadcastsInDim (shape1 N) (![] : Fin 0 → Fin (shape1 N).rank))
    (h1 : (shape1 N).BroadcastsInDim (shape2 N 1) (![0] : Fin 1 → Fin (shape2 N 1).rank))
    (d : GatherDims (shape1 N) (shape2 N 1) (shape1 N)) (hcoll : d.collapsedSliceDims = [0]) (hob : d.operandBatchingDims = [])
    (hsim : d.startIndexMap = [0]) (hivd : d.indexVectorDim = 1) (R : BitVec 32) (S : IVec (shape1 N) 32)
    (hS : S = Host.gather d v (column h0 h1 R (Host.sort2 (shape1 N) 0 cmp k (iotaInDim (shape1 N) 32 0)).2)) :
    (∀ i j, i ≤ j → j < N → seqOf S i ≤ seqOf S j) ∧ (∀ p : Fin N, ∃ i, i < N ∧ seqOf S i = (v (ix1 p)).toInt)
      ∧ ∀ i, i < N → ∃ p : Fin N, seqOf S i = (v (ix1 p)).toInt := by
  subst hk
  obtain ⟨σ, hσ, hmono, hval⟩ := order_of_sort cmp hcmp k
  have hat : ∀ p : Fin N, S (ix1 p) = k (ix1 (σ p)) := fun p => by
    have hlt := (σ p).isLt
    have e : column h0 h1 R (Host.sort2 (shape1 N) 0 cmp k (iotaInDim (shape1 N) 32 0)).2 (ix2 p (0 : Fin 1)) = BitVec.ofNat 32 (σ p).val := by
      rw [column_at h0 h1 R _ p (by rw [hval, toNat_small hN hlt.le]; omega), hval]
    rw [hS]
    exact take_ap d hcoll hob hsim hivd k _ p hlt (by omega) e
  have hs : ∀ i (h : i < N), seqOf S i = (k (ix1 (σ ⟨i, h⟩))).toInt := fun i h => by rw [seqOf_lt S h, hat]
  refine ⟨fun i j hij hj => ?_, fun p => ?_, fun i hi => ⟨σ ⟨i, hi⟩, hs i hi⟩⟩
  · rw [hs i (by omega), hs j hj]
    exact hmono _ _ hij
  · obtain ⟨i, rfl⟩ := hσ p
    exact ⟨i.val, i.isLt, hs i.val i.isLt⟩

/-- The marks of the first places. -/
theorem marks_at {N M : ℕ} [NeZero N] (hMN : M + 1 = N) (S : IVec (shape1 N) 32)
    (hb : shape0.BroadcastsInDim (shape1 N) (![] : Fin 0 → Fin (shape1 N).rank))
    (hb1 : shape0.BroadcastsInDim (shape1 1) (![] : Fin 0 → Fin (shape1 1).rank))
    (hs1 : (shape1 N).Slices ![1] (shape1 M)) (hs0 : (shape1 N).Slices ![0] (shape1 M)) (hr : (shape1 M).ReducesTo [] (shape1 M)) (hu : 0 < shape0.numel)
    (d : ScatterDims (shape1 N) (shape1 1) (shape1 M)) (hiw : d.insertedWindowDims = []) (hsd : d.scatterDimsToOperandDims = [0]) (p : Fin N) :
    Host.scatter d (fun _ b => b) (broadcastInDim (shape1 N) ![] hb (constantI shape0 1 1#1)) (broadcastInDim (shape1 1) ![] hb1 (constantI shape0 32 1#32))
        (Host.reduce IntOp.ori (cmpi .ne (extractStridedSlice (shape1 M) ![1] S hs1) (extractStridedSlice (shape1 M) ![0] S hs0)) (constantI shape0 1 0#1) hr hu)
        (ix1 p) = 1#1 ↔ First (seqOf S) p.val := by
  obtain ⟨at0, atS⟩ := stored_at d hiw hsd hMN (broadcastInDim (shape1 N) ![] hb (constantI shape0 1 1#1)) (broadcastInDim (shape1 1) ![] hb1 (constantI shape0 32 1#32))
    (bc0 hb1 _ _) (Host.reduce IntOp.ori (cmpi .ne (extractStridedSlice (shape1 M) ![1] S hs1) (extractStridedSlice (shape1 M) ![0] S hs0)) (constantI shape0 1 0#1) hr hu)
  by_cases hp : p.val = 0
  · rw [at0 p hp, bc0]
    exact iff_of_true rfl (Or.inl hp)
  · have hi : p.val - 1 < M := by have := p.isLt; omega
    rw [atS p ⟨p.val - 1, hi⟩ (by show p.val = p.val - 1 + 1; omega), or_of_none]
    show IntOp.cmpi .ne (extractStridedSlice (shape1 M) ![1] S hs1 (ix1 ⟨p.val - 1, hi⟩)) (extractStridedSlice (shape1 M) ![0] S hs0 (ix1 ⟨p.val - 1, hi⟩)) = 1#1 ↔ _
    rw [slice1 1 S hs1 ⟨p.val - 1, hi⟩ (by show 1 + (p.val - 1) < N; omega), slice1 0 S hs0 ⟨p.val - 1, hi⟩ (by show 0 + (p.val - 1) < N; omega), cmpi_ne_eq,
      ofBool_decide_eq_one_iff]
    have e1 : (ix1 (⟨1 + (p.val - 1), by omega⟩ : Fin N) : (shape1 N).Idx) = ix1 p := congrArg ix1 (Fin.ext (by show 1 + (p.val - 1) = p.val; omega))
    have e0 : (ix1 (⟨0 + (p.val - 1), by omega⟩ : Fin N) : (shape1 N).Idx) = ix1 (⟨p.val - 1, by omega⟩ : Fin N) := congrArg ix1 (Fin.ext (Nat.zero_add _))
    rw [e1, e0]
    unfold First
    rw [seqOf_val, seqOf_lt S (show p.val - 1 < N by omega), ne_eq, ne_eq, BitVec.toInt_inj]
    exact ⟨Or.inr, fun h => h.resolve_left hp⟩

section Marks
variable {N M : ℕ} (hMN : M + 1 = N) (hN : N < 2 ^ 31) (P : ℕ → Prop) [DecidablePred P] (F : IVec (shape1 N) 1) (hF : ∀ p : Fin N, F (ix1 p) = 1#1 ↔ P p.val) (hw : 1 < 32)

include hF in
theorem mark_word (p : Fin N) : extui 32 F hw (ix1 p) = BitVec.ofNat 32 (if P p.val then 1 else 0) := by
  rw [extui_apply]
  by_cases h : P p.val
  · rw [if_pos h, (hF p).2 h]
    rfl
  · rw [if_neg h, eq_zero_of_ne_one fun e => h ((hF p).1 e)]
    rfl

include hMN hF in
/-- How many marks up to each place. -/
theorem counts_at (init : IVec shape0 32) (hinit : init ix0 = 0#32) (h : (shape1 N).ReduceWindows (![N] : Fin 1 → Nat) ![1] ![M] ![0] (shape1 N))
    (hu : 0 < shape0.numel) (p : Fin N) :
    Host.reduceWindow IntOp.addi ![N] ![1] ![M] ![0] (extui 32 F hw) init h hu (ix1 p) = BitVec.ofNat 32 (Nat.count P (p.val + 1)) := by
  rw [cumsum1 hMN (extui 32 F hw) (fun n => if P n then 1 else 0) (mark_word P F hF hw) init hinit h hu p, sum_map_ite]

include hF in
/-- How many marks in all. -/
theorem total_at (h : (shape1 N).ReducesTo [0] shape0) (hu : 0 < shape0.numel) :
    Host.reduce IntOp.addi (extui 32 F hw) (constantI shape0 32 0#32) h hu ix0 = BitVec.ofNat 32 (Nat.count P N) := by
  rw [reduce_sum (extui 32 F hw) (fun n => if P n then 1 else 0) (mark_word P F hF hw) h hu, sum_map_ite]

include hMN hN in
/-- The running sum of how many places have each count is the place of each mark. -/
theorem places_at (C : IVec (shape1 N) 32) (hC : ∀ p : Fin N, C (ix1 p) = BitVec.ofNat 32 (Nat.count P (p.val + 1)))
    (h0 : shape0.BroadcastsInDim (shape1 N) (![] : Fin 0 → Fin (shape1 N).rank))
    (h1 : (shape1 N).BroadcastsInDim (shape2 N 1) (![0] : Fin 1 → Fin (shape2 N 1).rank)) (R : BitVec 32)
    (d : ScatterDims (shape1 N) (shape2 N 1) (shape1 N)) (hiw : d.insertedWindowDims = [0]) (hsd : d.scatterDimsToOperandDims = [0]) (hivd : d.indexVectorDim = 1)
    (init : IVec shape0 32) (hinit : init ix0 = 0#32) (h : (shape1 N).ReduceWindows (![N] : Fin 1 → Nat) ![1] ![M] ![0] (shape1 N)) (hu : 0 < shape0.numel) (k : Fin N) :
    Host.reduceWindow IntOp.addi ![N] ![1] ![M] ![0] (Host.scatter d IntOp.addi (broadcastInDim (shape1 N) ![] h0 (constantI shape0 32 0#32)) (column h0 h1 R C)
        (broadcastInDim (shape1 N) ![] h0 (constantI shape0 32 1#32))) init h hu (ix1 k)
      = BitVec.ofNat 32 (Nat.count (fun i => Nat.count P (i + 1) ≤ k.val) N) := by
  have hle : ∀ p : Fin N, Nat.count P (p.val + 1) ≤ N := fun p => (Nat.count_le _).trans p.isLt
  rw [cumsum1 hMN _ (fun x => Nat.count (fun i => Nat.count P (i + 1) = x) N) (fun x => scatter_hist d hiw hsd hivd _ (fun i => bc0 h0 _ i) _ _ (fun i => bc0 h0 _ i)
    (fun i => Nat.count P (i + 1)) (fun p => ?_) (fun p => by have := hle p; omega) x) init hinit h hu k, sum_count_eq]
  rw [column_at h0 h1 R C p (by rw [hC, toNat_small hN (hle p)]; have := hle p; omega), hC]

end Marks

/-- The distinct values in ascending order, the filler past the last of them. -/
theorem kinds_at {N : ℕ} [NeZero N] (hN : N < 2 ^ 31) (S : IVec (shape1 N) 32) (top total one len zero : IVec shape0 32) (Q W : IVec (shape1 N) 32)
    (h0 : shape0.BroadcastsInDim (shape1 N) (![] : Fin 0 → Fin (shape1 N).rank))
    (h1 : (shape1 N).BroadcastsInDim (shape2 N 1) (![0] : Fin 1 → Fin (shape2 N 1).rank)) (R : BitVec 32)
    (d : GatherDims (shape1 N) (shape2 N 1) (shape1 N)) (hcoll : d.collapsedSliceDims = [0]) (hob : d.operandBatchingDims = [])
    (hsim : d.startIndexMap = [0]) (hivd : d.indexVectorDim = 1) (past here : IVec (shape1 N) 1)
    (hQ : ∀ k : Fin N, Q (ix1 k) = BitVec.ofNat 32 (placeOf (seqOf S) N k.val)) (hone : one ix0 = 1#32) (hlen : len ix0 = BitVec.ofNat 32 N) (hzero : zero ix0 = 0#32)
    (htotal : total ix0 = BitVec.ofNat 32 (Nat.count (First (seqOf S)) N))
    (hpast : ∀ k : Fin N, past (ix1 k) = IntOp.cmpi .sge (BitVec.ofNat 32 k.val) (total ix0))
    (hhere : ∀ k : Fin N, here (ix1 k) = IntOp.cmpi .slt (BitVec.ofNat 32 k.val) (total ix0))
    (hW : W = select here (Host.gather d S (column h0 h1 R (select past (broadcastInDim (shape1 N) ![] h0 zero) (pyRem h0 (pyDiv h0 Q one) len))))
      (broadcastInDim (shape1 N) ![] h0 top)) (k : Fin N) :
    (W (ix1 k)).toInt = kind (seqOf S) N (top ix0).toInt k.val := by
  have hk := k.isLt
  have hc : Nat.count (First (seqOf S)) N ≤ N := Nat.count_le _
  have hp : placeOf (seqOf S) N k.val ≤ N := Nat.count_le _
  have hpos : 0 < N := by omega
  rw [hW, select_apply, hhere, htotal, bc0]
  unfold kind
  by_cases hkc : k.val < Nat.count (First (seqOf S)) N
  · have hplt : placeOf (seqOf S) N k.val < N := count_nonzero_lt _ _ _ hkc
    rw [if_pos hkc, (cmpi_slt_ofNat_eq_one_iff (by omega) (by omega)).2 hkc, ValueIdx.select_one]
    have e : column h0 h1 R (select past (broadcastInDim (shape1 N) ![] h0 zero) (pyRem h0 (pyDiv h0 Q one) len)) (ix2 k (0 : Fin 1))
        = BitVec.ofNat 32 (placeOf (seqOf S) N k.val) := by
      have ev : select past (broadcastInDim (shape1 N) ![] h0 zero) (pyRem h0 (pyDiv h0 Q one) len) (ix1 k) = BitVec.ofNat 32 (placeOf (seqOf S) N k.val) := by
        rw [select_apply, hpast, htotal, cmpi_sge_eq, toInt_ofNat_of_lt (w := 32) (by omega), toInt_ofNat_of_lt (w := 32) (by omega), decide_eq_false (by omega)]
        show pyRem h0 (pyDiv h0 Q one) len (ix1 k) = _
        rw [pyRem_ap h0 _ len (ix1 k) (pyDiv_ap h0 Q one (ix1 k) (hQ k) hone (by omega) Nat.one_pos (by omega)) hlen (by rw [Nat.div_one]; omega) hpos hN, Nat.div_one,
          Nat.mod_eq_of_lt hplt]
      rw [column_at h0 h1 R _ k (by rw [ev, toNat_small hN hp]; omega), ev]
    rw [take_ap d hcoll hob hsim hivd S _ k hplt (by omega) e, seqOf_lt S hplt]
  · rw [if_neg hkc, eq_zero_of_ne_one (fun h => hkc ((cmpi_slt_ofNat_eq_one_iff (by omega) (by omega)).1 h)), ValueIdx.select_zero]

/-- The number of distinct values below a word of the list is the place of that word among them. -/
theorem found_at {N n : ℕ} [NeZero N] (hN : N < 2 ^ 31) (S W : IVec (shape1 N) 32) (top : ℤ) (hs : ∀ i j, i ≤ j → j < N → seqOf S i ≤ seqOf S j)
    (ht : ∀ i, i < N → seqOf S i ≤ top) (hW : ∀ k : Fin N, (W (ix1 k)).toInt = kind (seqOf S) N top k.val) (q : IVec (shape1 n) 32) (p : Fin n)
    (hq : ∃ i, i < N ∧ seqOf S i = (q (ix1 p)).toInt)
    (hc1 : (shape1 N).BroadcastsInDim (shape2 1 N) (![1] : Fin 1 → Fin (shape2 1 N).rank))
    (hc2 : (shape2 1 N).BroadcastsInDim (shape2 n N) (![0, 1] : Fin 2 → Fin (shape2 n N).rank))
    (hr1 : (shape1 n).BroadcastsInDim (shape2 n 1) (![0] : Fin 1 → Fin (shape2 n 1).rank))
    (hr2 : (shape2 n 1).BroadcastsInDim (shape2 n N) (![0, 1] : Fin 2 → Fin (shape2 n N).rank))
    (hw : 1 < 32) (h : (shape2 n N).ReducesTo [1] (shape1 n)) (hu : 0 < shape0.numel) :
    ∃ k : Fin N, Host.reduce IntOp.addi (extui 32 (cmpi .slt (broadcastInDim (shape2 n N) ![0, 1] hc2 (broadcastInDim (shape2 1 N) ![1] hc1 W))
        (broadcastInDim (shape2 n N) ![0, 1] hr2 (broadcastInDim (shape2 n 1) ![0] hr1 q))) hw) (constantI shape0 32 0#32) h hu (ix1 p) = BitVec.ofNat 32 k.val
      ∧ W (ix1 k) = q (ix1 p) := by
  obtain ⟨i, hi, hiq⟩ := hq
  obtain ⟨hlt, heq⟩ := kind_at_count (seqOf S) N top hs ht hi
  refine ⟨⟨Nat.count (fun l => kind (seqOf S) N top l < seqOf S i) N, hlt⟩, ?_, BitVec.toInt_inj.1 ((hW _).trans (heq.trans hiq))⟩
  refine reduce_count (by omega) _ hw h hu p (fun l => kind (seqOf S) N top l < seqOf S i) fun l => ?_
  show IntOp.cmpi .slt (broadcastInDim (shape2 n N) ![0, 1] hc2 (broadcastInDim (shape2 1 N) ![1] hc1 W) (ix2 p l))
    (broadcastInDim (shape2 n N) ![0, 1] hr2 (broadcastInDim (shape2 n 1) ![0] hr1 q) (ix2 p l)) = 1#1 ↔ _
  rw [bcCols, bcRows, cmpi_slt_eq, ofBool_decide_eq_one_iff, hW, hiq]

end Cert.Proof.Kinds

end
-- ==== Proof.RefRead.lean ====
/-
  What each group of the reference's operations leaves in the buffers that a later group reads, as a function of what the group found.
-/
module

public import proofs.«01_k».proof.Proof.RefOps
public import proofs.«01_k».proof.Proof.RefKinds

@[expose] public section

noncomputable section

namespace Cert.Proof.OfReference

open Cert.ReferenceIdeal Cert.ReferenceIdeal.Gen Idealize.ShloMosaic Idealize.ShloMosaic.TcCoe Idealize.SL.Sem Idealize.ShloMosaic.StableHlo
open Cert.Proof.Take Cert.Proof.Lists Idealize.ShloMosaic.Routing

variable {F : FTy → Type} [FloatOps F]

/-- The centers at ids. -/
def entries (tab : IVec S1000000 32) (ids : IVec S4096 32) : IVec S4096 32 :=
  select (inside bcast_S_S4096x1 bcast_S1_S1x1_1 bcast_S1x1_S4096x1_0_1 reducesTo_S4096x1_S4096_d1 h_S_ 999999#32
      (column bcast_S_S4096 bcast_S4096_S4096x1_0 1000000#32 ids))
    (Host.gather gather_S1000000_S4096x1_S4096_n_0_n_n_0_1_1 tab (column bcast_S_S4096 bcast_S4096_S4096x1_0 1000000#32 ids))
    (broadcastInDim S4096 ![] bcast_S_S4096 (constantI S_ 32 2147483648#32))

/-- The words in ascending order. -/
def ascending (v : IVec S8192 32) : IVec S8192 32 :=
  Host.gather gather_S8192_S8192x1_S8192_n_0_n_n_0_1_1 v (column bcast_S_S8192 bcast_S8192_S8192x1_0 8192#32
    (Host.sort2 S8192 0 comparator_i32_i32_d0 (key shapeCasts_S8192_S8192x1 transposes_S8192x1_S1x8192_1_0 slices_S1x8192_S1x8192_0_0 shapeCasts_S1x8192_S8192 v)
      (iotaInDim S8192 32 0)).2)

/-- The marks of the first places. -/
def marks (S : IVec S8192 32) : IVec S8192 1 :=
  Host.scatter scatter_S8192_S1_S8191_0_n_0_0 (fun _ b => b) (broadcastInDim S8192 ![] bcast_S_S8192 (constantI S_ 1 1#1))
    (broadcastInDim S1 ![] bcast_S_S1 (constantI S_ 32 1#32))
    (Host.reduce IntOp.ori (cmpi .ne (extractStridedSlice S8191 ![1] S slices_S8192_S8191_1) (extractStridedSlice S8191 ![0] S slices_S8192_S8191_0))
      (constantI S_ 1 0#1) reducesTo_S8191_S8191_d h_S_)

/-- The running sum. -/
def running (x : IVec S8192 32) : IVec S8192 32 :=
  Host.reduceWindow IntOp.addi ![8192] ![1] ![8191] ![0] x (broadcastInDim S_ ![] bcast_S_S_ (constantI S_ 32 0#32)) reduceWindows_S8192_S8192_w8192s1p8191_0 h_S_

/-- How many places have each count. -/
def tally (C : IVec S8192 32) : IVec S8192 32 :=
  Host.scatter scatter_S8192_S8192x1_S8192_n_0_0_1 IntOp.addi (broadcastInDim S8192 ![] bcast_S_S8192 (constantI S_ 32 0#32))
    (column bcast_S_S8192 bcast_S8192_S8192x1_0 8192#32 C) (broadcastInDim S8192 ![] bcast_S_S8192 (constantI S_ 32 1#32))

/-- How many marks. -/
def total (F : IVec S8192 1) : IVec S_ 32 := Host.reduce IntOp.addi (extui 32 F natLt_1_32) (constantI S_ 32 0#32) reducesTo_S8192_S_d0 h_S_

/-- Which places lie past the total. -/
def past (F : IVec S8192 1) : IVec S8192 1 :=
  cmpi .sge (iotaInDim S8192 32 0) (broadcastInDim S8192 ![0] bcast_S1_S8192_0 (broadcastInDim S1 ![] bcast_S_S1 (total F)))

/-- Which places lie before the total. -/
def here (F : IVec S8192 1) : IVec S8192 1 := cmpi .slt (iotaInDim S8192 32 0) (broadcastInDim S8192 ![] bcast_S_S8192 (total F))

/-- The words at places. -/
def wordsAt (S places : IVec S8192 32) : IVec S8192 32 :=
  Host.gather gather_S8192_S8192x1_S8192_n_0_n_n_0_1_1 S (column bcast_S_S8192 bcast_S8192_S8192x1_0 8192#32 places)

/-- How many of the words are below each of the queries. -/
def numBelow (W : IVec S8192 32) (q : IVec S4096 32) : IVec S4096 32 :=
  Host.reduce IntOp.addi (extui 32 (cmpi .slt (broadcastInDim S4096x8192 ![0, 1] bcast_S1x8192_S4096x8192_0_1 (broadcastInDim S1x8192 ![1] bcast_S8192_S1x8192_1 W))
      (broadcastInDim S4096x8192 ![0, 1] bcast_S4096x1_S4096x8192_0_1 (broadcastInDim S4096x1 ![0] bcast_S4096_S4096x1_0 q))) natLt_1_32)
    (constantI S_ 32 0#32) reducesTo_S4096x8192_S4096_d1 h_S_

/-- The vectors of the words. -/
def vectors (cen : Vec F S65536x128 .f32) (W : IVec S8192 32) : Vec F S8192x128 .f32 :=
  select (broadcastInDim S8192x128 ![0] bcast_S8192_S8192x128_0
      (inside bcast_S_S8192x1 bcast_S1_S1x1_1 bcast_S1x1_S8192x1_0_1 reducesTo_S8192x1_S8192_d1 h_S_ 65535#32 (column bcast_S_S8192 bcast_S8192_S8192x1_0 65536#32 W)))
    (Host.gather gather_S65536x128_S8192x1_S8192x128_1_0_n_n_0_1_1128 cen (column bcast_S_S8192 bcast_S8192_S8192x1_0 65536#32 W))
    (broadcastInDim S8192x128 ![] bcast_S_S8192x128 (constant S_ .f32 0x7FC00000#32))

/-- The vectors at places. -/
def vectorsAt (vec : Vec F S8192x128 .f32) (places : IVec S4096 32) : Vec F S4096x128 .f32 :=
  select (broadcastInDim S4096x128 ![0] bcast_S4096_S4096x128_0
      (inside bcast_S_S4096x1 bcast_S1_S1x1_1 bcast_S1x1_S4096x1_0_1 reducesTo_S4096x1_S4096_d1 h_S_ 8191#32 (column bcast_S_S4096 bcast_S4096_S4096x1_0 8192#32 places)))
    (Host.gather gather_S8192x128_S4096x1_S4096x128_1_0_n_n_0_1_1128 vec (column bcast_S_S4096 bcast_S4096_S4096x1_0 8192#32 places))
    (broadcastInDim S4096x128 ![] bcast_S_S4096x128 (constant S_ .f32 0x7FC00000#32))

set_option maxRecDepth 8192 in
set_option maxHeartbeats 2000000 in
theorem takeDoc_v0 (V : Valuation τ sig (Elt F)) :
    after takeDoc V (no_index (Proc.devRef .tc main_v0)) = (entries (V (Proc.devRef .tc main_arg1)) (V (Proc.devRef .tc main_arg2)) :) := by
  simp only [takeDoc, TRef.binary, TRef.nullary, TRef.reshape, TRef.ternary, TRef.unary, TRef.toBuf, TRef.ofBuf, cast_eq]
  after_results_simp
  rfl

set_option maxRecDepth 8192 in
set_option maxHeartbeats 2000000 in
theorem takeNeg_v1 (V : Valuation τ sig (Elt F)) :
    after takeNeg V (no_index (Proc.devRef .tc main_v1)) = (entries (V (Proc.devRef .tc main_arg1)) (V (Proc.devRef .tc main_arg3)) :) := by
  simp only [takeNeg, TRef.binary, TRef.nullary, TRef.reshape, TRef.ternary, TRef.unary, TRef.toBuf, TRef.ofBuf, cast_eq]
  after_results_simp
  rfl

set_option maxRecDepth 8192 in
set_option maxHeartbeats 2000000 in
theorem joined_v2 (V : Valuation τ sig (Elt F)) :
    after joined V (no_index (Proc.devRef .tc main_v2)) = (joinIds (V (Proc.devRef .tc main_v0)) (V (Proc.devRef .tc main_v1)) :) := by
  simp only [joined, TRef.binary, TRef.nullary, TRef.reshape, TRef.ternary, TRef.unary, TRef.toBuf, TRef.ofBuf, cast_eq]
  after_results_simp

set_option maxRecDepth 8192 in
set_option maxHeartbeats 2000000 in
theorem joined_v3 (V : Valuation τ sig (Elt F)) :
    after joined V (no_index (Proc.devRef .tc main_v3)) = (Host.reduce IntOp.maxsi (joinIds (V (Proc.devRef .tc main_v0)) (V (Proc.devRef .tc main_v1))) (constantI S_ 32 2147483648#32) reducesTo_S8192_S_d0 h_S_ :) := by
  simp only [joined, TRef.binary, TRef.nullary, TRef.reshape, TRef.ternary, TRef.unary, TRef.toBuf, TRef.ofBuf, cast_eq]
  after_results_simp

set_option maxRecDepth 8192 in
set_option maxHeartbeats 2000000 in
theorem uniq_v4_0 (V : Valuation τ sig (Elt F)) :
    after uniq V (no_index (Proc.devRef .tc main_v4_0)) = (ascending (V (Proc.devRef .tc main_v2)) :) := by
  simp only [uniq, TRef.binary, TRef.nullary, TRef.reshape, TRef.ternary, TRef.unary, TRef.toBuf, TRef.ofBuf, cast_eq]
  after_results_simp
  rfl

set_option maxRecDepth 8192 in
set_option maxHeartbeats 2000000 in
theorem uniq_v4_1 (V : Valuation τ sig (Elt F)) :
    after uniq V (no_index (Proc.devRef .tc main_v4_1)) = (marks (ascending (V (Proc.devRef .tc main_v2))) :) := by
  simp only [uniq, TRef.binary, TRef.nullary, TRef.reshape, TRef.ternary, TRef.unary, TRef.toBuf, TRef.ofBuf, cast_eq]
  after_results_simp
  rfl

set_option maxRecDepth 8192 in
set_option maxHeartbeats 2000000 in
theorem count_v5 (V : Valuation τ sig (Elt F)) :
    after count V (no_index (Proc.devRef .tc main_v5)) = (running (extui 32 (V (Proc.devRef .tc main_v4_1)) natLt_1_32) :) := by
  simp only [count, TRef.binary, TRef.nullary, TRef.reshape, TRef.ternary, TRef.unary, TRef.toBuf, TRef.ofBuf, cast_eq]
  after_results_simp
  rfl

set_option maxRecDepth 8192 in
set_option maxHeartbeats 2000000 in
theorem scattered_v14 (V : Valuation τ sig (Elt F)) :
    after scattered V (no_index (Proc.devRef .tc main_v14)) = (tally (V (Proc.devRef .tc main_v5)) :) := by
  simp only [scattered, TRef.binary, TRef.nullary, TRef.reshape, TRef.ternary, TRef.unary, TRef.toBuf, TRef.ofBuf, cast_eq]
  after_results_simp
  rfl

set_option maxRecDepth 8192 in
set_option maxHeartbeats 2000000 in
theorem cums_v15 (V : Valuation τ sig (Elt F)) :
    after cums V (no_index (Proc.devRef .tc main_v15)) = (running (V (Proc.devRef .tc main_v14)) :) := by
  simp only [cums, TRef.binary, TRef.nullary, TRef.reshape, TRef.ternary, TRef.unary, TRef.toBuf, TRef.ofBuf, cast_eq]
  after_results_simp
  rfl

set_option maxRecDepth 8192 in
set_option maxHeartbeats 2000000 in
theorem one_c_4 (V : Valuation τ sig (Elt F)) :
    after one V (no_index (Proc.devRef .tc main_c_4)) = (constantI S_ 32 1#32 :) := by
  simp only [one, TRef.binary, TRef.nullary, TRef.reshape, TRef.ternary, TRef.unary, TRef.toBuf, TRef.ofBuf, cast_eq]
  after_results_simp

set_option maxRecDepth 8192 in
set_option maxHeartbeats 2000000 in
theorem floorDiv_v16 (V : Valuation τ sig (Elt F)) :
    after floorDiv V (no_index (Proc.devRef .tc main_v16)) = (pyDiv bcast_S_S8192 (V (Proc.devRef .tc main_v15)) (V (Proc.devRef .tc main_c_4)) :) := by
  simp only [floorDiv, TRef.binary, TRef.nullary, TRef.reshape, TRef.ternary, TRef.unary, TRef.toBuf, TRef.ofBuf, cast_eq]
  after_results_simp
  rfl

set_option maxRecDepth 8192 in
set_option maxHeartbeats 2000000 in
theorem len_c_5 (V : Valuation τ sig (Elt F)) :
    after len V (no_index (Proc.devRef .tc main_c_5)) = (constantI S_ 32 8192#32 :) := by
  simp only [len, TRef.binary, TRef.nullary, TRef.reshape, TRef.ternary, TRef.unary, TRef.toBuf, TRef.ofBuf, cast_eq]
  after_results_simp

set_option maxRecDepth 8192 in
set_option maxHeartbeats 2000000 in
theorem remain_v17 (V : Valuation τ sig (Elt F)) :
    after remain V (no_index (Proc.devRef .tc main_v17)) = (pyRem bcast_S_S8192 (V (Proc.devRef .tc main_v16)) (V (Proc.devRef .tc main_c_5)) :) := by
  simp only [remain, TRef.binary, TRef.nullary, TRef.reshape, TRef.ternary, TRef.unary, TRef.toBuf, TRef.ofBuf, cast_eq]
  after_results_simp
  rfl

set_option maxRecDepth 8192 in
set_option maxHeartbeats 2000000 in
theorem pastEnd_v23 (V : Valuation τ sig (Elt F)) :
    after pastEnd V (no_index (Proc.devRef .tc main_v23)) = (past (V (Proc.devRef .tc main_v4_1)) :) := by
  simp only [pastEnd, TRef.binary, TRef.nullary, TRef.reshape, TRef.ternary, TRef.unary, TRef.toBuf, TRef.ofBuf, cast_eq]
  after_results_simp
  rfl

set_option maxRecDepth 8192 in
set_option maxHeartbeats 2000000 in
theorem pastEnd_c_7 (V : Valuation τ sig (Elt F)) :
    after pastEnd V (no_index (Proc.devRef .tc main_c_7)) = (constantI S_ 32 0#32 :) := by
  simp only [pastEnd, TRef.binary, TRef.nullary, TRef.reshape, TRef.ternary, TRef.unary, TRef.toBuf, TRef.ofBuf, cast_eq]
  after_results_simp

set_option maxRecDepth 8192 in
set_option maxHeartbeats 2000000 in
theorem whereIdx_v24 (V : Valuation τ sig (Elt F)) :
    after whereIdx V (no_index (Proc.devRef .tc main_v24)) = (select (V (Proc.devRef .tc main_v23)) (broadcastInDim S8192 ![] bcast_S_S8192 (V (Proc.devRef .tc main_c_7))) (V (Proc.devRef .tc main_v17)) :) := by
  simp only [whereIdx, TRef.binary, TRef.nullary, TRef.reshape, TRef.ternary, TRef.unary, TRef.toBuf, TRef.ofBuf, cast_eq]
  after_results_simp
  rfl

set_option maxRecDepth 8192 in
set_option maxHeartbeats 2000000 in
theorem fetched_v31 (V : Valuation τ sig (Elt F)) :
    after fetched V (no_index (Proc.devRef .tc main_v31)) = (wordsAt (V (Proc.devRef .tc main_v4_0)) (V (Proc.devRef .tc main_v24)) :) := by
  simp only [fetched, TRef.binary, TRef.nullary, TRef.reshape, TRef.ternary, TRef.unary, TRef.toBuf, TRef.ofBuf, cast_eq]
  after_results_simp
  rfl

set_option maxRecDepth 8192 in
set_option maxHeartbeats 2000000 in
theorem fetched_v36 (V : Valuation τ sig (Elt F)) :
    after fetched V (no_index (Proc.devRef .tc main_v36)) = (here (V (Proc.devRef .tc main_v4_1)) :) := by
  simp only [fetched, TRef.binary, TRef.nullary, TRef.reshape, TRef.ternary, TRef.unary, TRef.toBuf, TRef.ofBuf, cast_eq]
  after_results_simp
  rfl

set_option maxRecDepth 8192 in
set_option maxHeartbeats 2000000 in
theorem whereFill_v37 (V : Valuation τ sig (Elt F)) :
    after whereFill V (no_index (Proc.devRef .tc main_v37)) = (select (V (Proc.devRef .tc main_v36)) (V (Proc.devRef .tc main_v31)) (broadcastInDim S8192 ![] bcast_S_S8192 (V (Proc.devRef .tc main_v3))) :) := by
  simp only [whereFill, TRef.binary, TRef.nullary, TRef.reshape, TRef.ternary, TRef.unary, TRef.toBuf, TRef.ofBuf, cast_eq]
  after_results_simp

set_option maxRecDepth 8192 in
set_option maxHeartbeats 2000000 in
theorem below_v44 (V : Valuation τ sig (Elt F)) :
    after below V (no_index (Proc.devRef .tc main_v44)) = (numBelow (V (Proc.devRef .tc main_v37)) (V (Proc.devRef .tc main_v0)) :) := by
  simp only [below, TRef.binary, TRef.nullary, TRef.reshape, TRef.ternary, TRef.unary, TRef.toBuf, TRef.ofBuf, cast_eq]
  after_results_simp
  rfl

set_option maxRecDepth 8192 in
set_option maxHeartbeats 2000000 in
theorem takeVec_v52 (V : Valuation τ sig (Elt F)) :
    after takeVec V (no_index (Proc.devRef .tc main_v52)) = (vectors (V (Proc.devRef .tc main_arg0)) (V (Proc.devRef .tc main_v37)) :) := by
  simp only [takeVec, TRef.binary, TRef.nullary, TRef.reshape, TRef.ternary, TRef.unary, TRef.toBuf, TRef.ofBuf, cast_eq]
  after_results_simp
  rfl

set_option maxRecDepth 8192 in
set_option maxHeartbeats 2000000 in
theorem takePos_v53 (V : Valuation τ sig (Elt F)) :
    after takePos V (no_index (Proc.devRef .tc main_v53)) = (vectorsAt (V (Proc.devRef .tc main_v52)) (V (Proc.devRef .tc main_v44)) :) := by
  simp only [takePos, TRef.binary, TRef.nullary, TRef.reshape, TRef.ternary, TRef.unary, TRef.toBuf, TRef.ofBuf, cast_eq]
  after_results_simp
  rfl

set_option maxRecDepth 8192 in
set_option maxHeartbeats 2000000 in
theorem takeOth_v54 (V : Valuation τ sig (Elt F)) :
    after takeOth V (no_index (Proc.devRef .tc main_v54)) = (vectorsAt (V (Proc.devRef .tc main_v52)) (V (Proc.devRef .tc main_v51)) :) := by
  simp only [takeOth, TRef.binary, TRef.nullary, TRef.reshape, TRef.ternary, TRef.unary, TRef.toBuf, TRef.ofBuf, cast_eq]
  after_results_simp
  rfl

set_option maxRecDepth 8192 in
set_option maxHeartbeats 2000000 in
theorem belowOth_v51 (V : Valuation τ sig (Elt F)) :
    after belowOth (after spread V) (no_index (Proc.devRef .tc main_v51)) = (numBelow (V (Proc.devRef .tc main_v37)) (V (Proc.devRef .tc main_v1)) :) := by
  rw [← after_append]
  simp only [spread, belowOth, List.cons_append, List.nil_append]
  after_results_simp
  rfl

/-- The distinct words in ascending order, the greatest past the last of them. -/
def distinct (v : IVec S8192 32) : IVec S8192 32 :=
  select (here (marks (ascending v)))
    (wordsAt (ascending v) (select (past (marks (ascending v))) (broadcastInDim S8192 ![] bcast_S_S8192 (constantI S_ 32 0#32))
      (pyRem bcast_S_S8192 (pyDiv bcast_S_S8192 (running (tally (running (extui 32 (marks (ascending v)) natLt_1_32)))) (constantI S_ 32 1#32)) (constantI S_ 32 8192#32))))
    (broadcastInDim S8192 ![] bcast_S_S8192 (Host.reduce IntOp.maxsi v (constantI S_ 32 2147483648#32) reducesTo_S8192_S_d0 h_S_))

/-- The two lists of centers as one. -/
def asked (tab : IVec S1000000 32) (a b : IVec S4096 32) : IVec S8192 32 := joinIds (entries tab a) (entries tab b)

/-- The vectors of the centers at ids, found among the distinct centers of both lists. -/
def found (cen : Vec F S65536x128 .f32) (tab : IVec S1000000 32) (a b ids : IVec S4096 32) : Vec F S4096x128 .f32 :=
  vectorsAt (vectors cen (distinct (asked tab a b))) (numBelow (distinct (asked tab a b)) (entries tab ids))

set_option maxRecDepth 8192 in
set_option maxHeartbeats 4000000 in
/-- The two results. -/
theorem read_results (V : Valuation τ sig (Elt F)) :
    after ops V (Proc.devRef .tc main_v53) = (found (V (Proc.devRef .tc main_arg0)) (V (Proc.devRef .tc main_arg1)) (V (Proc.devRef .tc main_arg2))
        (V (Proc.devRef .tc main_arg3)) (V (Proc.devRef .tc main_arg2)) :)
      ∧ after ops V (Proc.devRef .tc main_v54) = (found (V (Proc.devRef .tc main_arg0)) (V (Proc.devRef .tc main_arg1)) (V (Proc.devRef .tc main_arg2))
        (V (Proc.devRef .tc main_arg3)) (V (Proc.devRef .tc main_arg3)) :) := by
  constructor
  all_goals
    simp (disch := decide) only [ops, part0, part1, after_append, takeDoc_v0, takeNeg_v1, joined_v2, joined_v3, uniq_v4_0, uniq_v4_1, count_v5, scattered_v14, cums_v15, one_c_4, floorDiv_v16, len_c_5, remain_v17, pastEnd_v23, pastEnd_c_7, whereIdx_v24, fetched_v31, fetched_v36, whereFill_v37, below_v44, belowOth_v51, takeVec_v52, takePos_v53, takeOth_v54, takeDoc_line.keep, takeNeg_line.keep, joined_line.keep, uniq_line.keep, count_line.keep, scattered_line.keep, cums_line.keep, one_line.keep, floorDiv_line.keep, len_line.keep, remain_line.keep, pastEnd_line.keep, whereIdx_line.keep, fetched_line.keep, whereFill_line.keep, below_line.keep, spread_line.keep, belowOth_line.keep, takeVec_line.keep, takePos_line.keep, takeOth_line.keep]
    rfl

end Cert.Proof.OfReference

end
-- ==== Proof.Reads.lean ====
/-
  What a part of a buffer reads, of contents given as a function of the coordinates: a run of a vector, a run of one row of
  a matrix, a block of rows, and one block of an array of blocks. And what a gather through a list of row numbers brings.
-/
module

public import Idealize.ShloMosaic.Lib.SparseCore.Ops
public import Idealize.ShloMosaic.Lib.SparseCore.Stream
public import Idealize.ShloMosaic.Lib.ValueLayout

@[expose] public section

noncomputable section

namespace Cert.Proof.Reads

open Idealize.ShloMosaic Idealize.ShloMosaic.ValueIdx

/-! ## Arrays read at a natural number, counted around the array's length -/

section Around
variable {α : Type}

/-- A vector at `n`. -/
def at1 {N : ℕ} [NeZero N] (x : (⟨1, ![N]⟩ : Shape).Idx → α) (n : ℕ) : α := x (ix1 (Fin.ofNat N n))
/-- A matrix at row `n`, column `k`. -/
def at2 {N C : ℕ} [NeZero N] [NeZero C] (x : (⟨2, ![N, C]⟩ : Shape).Idx → α) (n k : ℕ) : α := x (ix2 (Fin.ofNat N n) (Fin.ofNat C k))

theorem at1_val {N : ℕ} [NeZero N] (x : (⟨1, ![N]⟩ : Shape).Idx → α) (i : (⟨1, ![N]⟩ : Shape).Idx) : at1 x (i 0).val = x i := by
  unfold at1
  exact congrArg x ((congrArg ix1 (Fin.ext (Nat.mod_eq_of_lt (i 0).isLt))).trans (eq_ix1 i).symm)

theorem at2_val {N C : ℕ} [NeZero N] [NeZero C] (x : (⟨2, ![N, C]⟩ : Shape).Idx → α) (i : (⟨2, ![N, C]⟩ : Shape).Idx) :
    at2 x (i 0).val (i 1).val = x i := by
  unfold at2
  exact congrArg x ((congrArg₂ ix2 (Fin.ext (Nat.mod_eq_of_lt (i 0).isLt)) (Fin.ext (Nat.mod_eq_of_lt (i 1).isLt))).trans (eq_ix2 i).symm)

/-- The center a document names: the table read at the document's number. -/
def centerOf {M N : ℕ} [NeZero M] [NeZero N] (tab : (⟨1, ![M]⟩ : Shape).Idx → BitVec 32) (ids : (⟨1, ![N]⟩ : Shape).Idx → BitVec 32) (n : ℕ) : BitVec 32 :=
  at1 tab (at1 ids n).toNat

/-- The vectors of the documents' centers, one row per document: THE LOOKUP. -/
def lookup {R C M N : ℕ} [NeZero R] [NeZero C] [NeZero M] [NeZero N] (cen : (⟨2, ![R, C]⟩ : Shape).Idx → α) (tab : (⟨1, ![M]⟩ : Shape).Idx → BitVec 32)
    (ids : (⟨1, ![N]⟩ : Shape).Idx → BitVec 32) : (⟨2, ![N, C]⟩ : Shape).Idx → α :=
  fun x => at2 cen (centerOf tab ids (x 0).val).toNat (x 1).val

end Around

/-! ## Parts of buffers -/

section Parts

variable {sig : RefSig} {κ : Kind} {sp : Space} {e : EltTy} {Val : EltTy → Type}

/-- A run of a vector. -/
theorem read_seg {N n : ℕ} (M : Memref sig κ sp ⟨1, ![N]⟩ e) {off : Fin 1 → ℕ} (inb : ∀ a, off a + (⟨1, ![n]⟩ : Shape).size a ≤ (⟨1, ![N]⟩ : Shape).size a)
    (h : ∀ a, (Rect.unit (s := ⟨1, ![N]⟩) off (⟨1, ![n]⟩ : Shape).size inb).stride a = 1) (f : M.view.ty.Contents Val) (g : ℕ → Val e)
    (hg : ∀ i, M.view.read Val f i = g (i 0).val) (k : (⟨1, ![n]⟩ : Shape).Idx) :
    (M.slice (Rect.unit (s := ⟨1, ![N]⟩) off (⟨1, ![n]⟩ : Shape).size inb) h).view.read Val f k = g (off 0 + (k 0).val) := by
  refine (hg ((Rect.unit (s := ⟨1, ![N]⟩) off (⟨1, ![n]⟩ : Shape).size inb).emb k)).trans (congrArg g ?_)
  rw [Rect.emb_apply]
  exact congrArg (off 0 + ·) (Nat.one_mul _)

/-- A block of a matrix. -/
theorem read_rows {N C n c : ℕ} (M : Memref sig κ sp ⟨2, ![N, C]⟩ e) {off : Fin 2 → ℕ}
    (inb : ∀ a, off a + (⟨2, ![n, c]⟩ : Shape).size a ≤ (⟨2, ![N, C]⟩ : Shape).size a)
    (h : ∀ a, (Rect.unit (s := ⟨2, ![N, C]⟩) off (⟨2, ![n, c]⟩ : Shape).size inb).stride a = 1) (f : M.view.ty.Contents Val) (g : ℕ → ℕ → Val e)
    (hg : ∀ i, M.view.read Val f i = g (i 0).val (i 1).val) (k : (⟨2, ![n, c]⟩ : Shape).Idx) :
    (M.slice (Rect.unit (s := ⟨2, ![N, C]⟩) off (⟨2, ![n, c]⟩ : Shape).size inb) h).view.read Val f k = g (off 0 + (k 0).val) (off 1 + (k 1).val) := by
  refine (hg ((Rect.unit (s := ⟨2, ![N, C]⟩) off (⟨2, ![n, c]⟩ : Shape).size inb).emb k)).trans (congrArg₂ g ?_ ?_) <;> rw [Rect.emb_apply]
  · exact congrArg (off 0 + ·) (Nat.one_mul _)
  · exact congrArg (off 1 + ·) (Nat.one_mul _)

/-- A run of one row of a matrix, as a vector. -/
theorem read_row {N C c : ℕ} (M : Memref sig κ sp ⟨2, ![N, C]⟩ e) {off : Fin 2 → ℕ}
    (inb : ∀ a, off a + (⟨2, ![1, c]⟩ : Shape).size a ≤ (⟨2, ![N, C]⟩ : Shape).size a)
    (h : ∀ a, (Rect.unit (s := ⟨2, ![N, C]⟩) off (⟨2, ![1, c]⟩ : Shape).size inb).stride a = 1)
    (hq : (⟨2, ![1, c]⟩ : Shape).Squeezes ⟨1, ![c]⟩) (f : M.view.ty.Contents Val) (g : ℕ → ℕ → Val e)
    (hg : ∀ i, M.view.read Val f i = g (i 0).val (i 1).val) (k : (⟨1, ![c]⟩ : Shape).Idx) :
    ((M.slice (Rect.unit (s := ⟨2, ![N, C]⟩) off (⟨2, ![1, c]⟩ : Shape).size inb) h).squeeze ⟨1, ![c]⟩ hq).view.read Val f k
      = g (off 0) (off 1 + (k 0).val) := by
  refine (read_rows M inb h f g hg (Shape.reshapeEquiv hq.numel_eq k)).trans ?_
  have hk := Shape.reshapeEquiv_cons_one hq.numel_eq k
  rw [hk]; rfl

/-- One block of an array of blocks, as a matrix. -/
theorem read_block {A B N C : ℕ} (M : Memref sig κ sp ⟨4, ![A, B, N, C]⟩ e) {off : Fin 4 → ℕ}
    (inb : ∀ a, off a + (⟨4, ![1, 1, N, C]⟩ : Shape).size a ≤ (⟨4, ![A, B, N, C]⟩ : Shape).size a)
    (h : ∀ a, (Rect.unit (s := ⟨4, ![A, B, N, C]⟩) off (⟨4, ![1, 1, N, C]⟩ : Shape).size inb).stride a = 1)
    (hq : (⟨4, ![1, 1, N, C]⟩ : Shape).Squeezes ⟨2, ![N, C]⟩) (f : M.view.ty.Contents Val) (g : ℕ → ℕ → ℕ → ℕ → Val e)
    (hg : ∀ i, M.view.read Val f i = g (i 0).val (i 1).val (i 2).val (i 3).val) (k : (⟨2, ![N, C]⟩ : Shape).Idx) :
    ((M.slice (Rect.unit (s := ⟨4, ![A, B, N, C]⟩) off (⟨4, ![1, 1, N, C]⟩ : Shape).size inb) h).squeeze ⟨2, ![N, C]⟩ hq).view.read Val f k
      = g (off 0) (off 1) (off 2 + (k 0).val) (off 3 + (k 1).val) := by
  have hk : Shape.reshapeEquiv hq.numel_eq k = ix4 (⟨0, Nat.one_pos⟩ : Fin 1) (⟨0, Nat.one_pos⟩ : Fin 1) (k 0) (k 1) := by
    conv_lhs => rw [eq_ix2 k]
    exact reshapeEquiv_ix2_11ab hq.numel_eq (k 0) (k 1)
  refine (hg ((Rect.unit (s := ⟨4, ![A, B, N, C]⟩) off (⟨4, ![1, 1, N, C]⟩ : Shape).size inb).emb (Shape.reshapeEquiv hq.numel_eq k))).trans ?_
  rw [hk]
  simp only [Rect.emb_apply]
  show g (off 0 + 1 * 0) (off 1 + 1 * 0) (off 2 + 1 * (k 0).val) (off 3 + 1 * (k 1).val) = _
  simp only [Nat.one_mul, Nat.add_zero]

/-- The elements of a whole buffer's part are the rectangle's, -/
theorem set_part (b : Ref sig κ) (r : Rect b.ty.shape) (h : ∀ a, r.stride a = 1) : ((Memref.whole b).slice r h).view.set = r.set := by
  show ((View.whole b).slice r).set = _
  rw [View.set_slice]; exact Finset.map_refl

/-- and the part's with its unit axes dropped are the same. -/
theorem set_part_squeezed (b : Ref sig κ) (r : Rect b.ty.shape) (h : ∀ a, r.stride a = 1) (s' : Shape) (hq : r.shape.Squeezes s') :
    (((Memref.whole b).slice r h).squeeze s' hq).view.set = r.set := by
  show (((View.whole b).slice r).reshape s' hq.numel_eq).set = _
  rw [View.set_reshape, View.set_slice]; exact Finset.map_refl

end Parts

/-! ## Gathers -/

section Gathers

variable {F : FTy → Type} {e : EltTy}

/-- The list's entry `k`. -/
theorem rows_val {z : ℕ} {si : Shape} (idx : si.Idx → Elt F .i32) {N : ℕ} (hn : si.numel = N) (h : ∀ x, (idx x).toNat < z) (g : ℕ → BitVec 32)
    (hg : ∀ x : si.Idx, ∀ k : ℕ, (si.rowMajor x).val = k → idx x = g k) (k : Fin N) : (SparseCore.rows (F := F) idx hn h k).val = (g k.val).toNat := by
  show (idx (si.rowMajor.symm (k.cast hn.symm))).toNat = _
  rw [hg (si.rowMajor.symm (k.cast hn.symm)) k.val (by rw [Equiv.apply_symm_apply]; rfl)]

/-- A gather of a vector's elements by a list. -/
theorem gather_vec {N n : ℕ} (hg : (⟨1, ![N]⟩ : Shape).Gathers 0 ⟨1, ![n]⟩) (src : (⟨1, ![N]⟩ : Shape).Idx → Elt F e) (idx : (⟨1, ![n]⟩ : Shape).Idx → Elt F .i32)
    (hn : (⟨1, ![n]⟩ : Shape).numel = (⟨1, ![n]⟩ : Shape).size hg.axis') (hin : ∀ x, (idx x).toNat < (⟨1, ![N]⟩ : Shape).size hg.axis) (g : ℕ → Elt F e) (l : ℕ → BitVec 32)
    (hsrc : ∀ i, src i = g (i 0).val) (hl : ∀ x, idx x = l (x 0).val) (x : (⟨1, ![n]⟩ : Shape).Idx) :
    SparseCore.gatherPayload hg src (SparseCore.rows (F := F) idx hn hin) x = g (l (x 0).val).toNat := by
  show src (hg.idx _ x) = _
  rw [hsrc]
  refine congrArg g ?_
  have e := congrArg Fin.val (hg.idx_axis (SparseCore.rows (F := F) idx hn hin) x)
  refine e.trans ?_
  exact rows_val (F := F) idx hn hin l (fun y k hk => by rw [hl y, ← hk, Shape.rowMajor_val_one]) _

/-- A gather of a matrix's rows by a list. -/
theorem gather_rows {N C n : ℕ} (hg : (⟨2, ![N, C]⟩ : Shape).Gathers 0 ⟨2, ![n, C]⟩) (src : (⟨2, ![N, C]⟩ : Shape).Idx → Elt F e)
    (idx : (⟨1, ![n]⟩ : Shape).Idx → Elt F .i32) (hn : (⟨1, ![n]⟩ : Shape).numel = (⟨2, ![n, C]⟩ : Shape).size hg.axis')
    (hin : ∀ x, (idx x).toNat < (⟨2, ![N, C]⟩ : Shape).size hg.axis) (g : ℕ → ℕ → Elt F e) (l : ℕ → BitVec 32)
    (hsrc : ∀ i, src i = g (i 0).val (i 1).val) (hl : ∀ x, idx x = l (x 0).val) (x : (⟨2, ![n, C]⟩ : Shape).Idx) :
    SparseCore.gatherPayload hg src (SparseCore.rows (F := F) idx hn hin) x = g (l (x 0).val).toNat (x 1).val := by
  show src (hg.idx _ x) = _
  rw [hsrc]
  refine congrArg₂ g ?_ ?_
  · have e := congrArg Fin.val (hg.idx_axis (SparseCore.rows (F := F) idx hn hin) x)
    refine e.trans ?_
    exact rows_val (F := F) idx hn hin l (fun y k hk => by rw [hl y, ← hk, Shape.rowMajor_val_one]) _
  · exact hg.idx_of_ne (SparseCore.rows (F := F) idx hn hin) x 1 Nat.one_ne_zero

end Gathers

end Cert.Proof.Reads

end
-- ==== Proof.RefValue.lean ====
/-
  The reference's results as the plain lookup: finding a center among the distinct centers of both lists and reading its vector there
  reads the center's own vector.
-/
module

public import proofs.«01_k».proof.Proof.RefRead
public import proofs.«01_k».proof.Proof.Reads

@[expose] public section

noncomputable section

namespace Cert.Proof.OfReference

open Cert.ReferenceIdeal Cert.ReferenceIdeal.Gen
open Idealize.ShloMosaic hiding ix0 ix1 ix2 ix3 eq_ix1 eq_ix2 eq_ix3
open Idealize.SL.Sem
open Idealize.ShloMosaic.ValueIdx Idealize.ShloMosaic.Routing Cert.Proof.Take Cert.Proof.Lists Cert.Proof.Kinds Cert.Proof.Distinct Cert.Proof.Reads

variable {F : FTy → Type} [FloatOps F]

/-- An entry at an id of the table. -/
theorem entries_apply (tab : IVec S1000000 32) (ids : IVec S4096 32) (p : Fin 4096) (h : (ids (ix1 p)).toNat < 1000000) :
    entries tab ids (ix1 p) = centerOf tab ids p.val := by
  have hc := column_at bcast_S_S4096 bcast_S4096_S4096x1_0 1000000#32 ids p (by omega)
  unfold entries
  rw [select_apply, inside_at bcast_S_S4096x1 bcast_S1_S1x1_1 bcast_S1x1_S4096x1_0_1 reducesTo_S4096x1_S4096_d1 h_S_ 999999 (by omega) _ p (by rw [hc]; omega),
    ValueIdx.select_one, entries_at gather_S1000000_S4096x1_S4096_n_0_n_n_0_1_1 rfl rfl rfl rfl tab _ p (by rw [hc]; exact h) (by omega)]
  unfold centerOf at1
  refine congrArg (fun q : Fin 1000000 => tab (ix1 q)) (Fin.ext ?_)
  show (column bcast_S_S4096 bcast_S4096_S4096x1_0 1000000#32 ids (ix2 p (0 : Fin 1))).toNat = (ids (ix1 (Fin.ofNat 4096 p.val))).toNat % 1000000
  rw [hc, show Fin.ofNat 4096 p.val = p from Fin.ext (Nat.mod_eq_of_lt p.isLt), Nat.mod_eq_of_lt h]

/-- An entry of either list is an entry of both as one. -/
theorem asked_of_entries (tab : IVec S1000000 32) (a b ids : IVec S4096 32) (hids : ids = a ∨ ids = b) (p : Fin 4096) :
    ∃ q : Fin 8192, asked tab a b (ix1 q) = entries tab ids (ix1 p) := by
  have hp := p.isLt
  rcases hids with rfl | rfl
  · exact ⟨⟨p.val, by omega⟩, joined_left _ _ concatenates_S4096_S4096_S8192_d0 p _ rfl⟩
  · exact ⟨⟨4096 + p.val, by omega⟩, joined_right _ _ concatenates_S4096_S4096_S8192_d0 p _ rfl⟩

/-- A scalar spread twice. -/
theorem scalar_twice {α : Type} {s t : Shape} (hb : shape0.BroadcastsInDim s (![] : Fin 0 → Fin s.rank)) (dims : Fin s.rank → Fin t.rank) (h : s.BroadcastsInDim t dims)
    (v : shape0.Idx → α) (j : t.Idx) : broadcastInDim t dims h (broadcastInDim s ![] hb v) j = v ix0 := by
  unfold broadcastInDim
  exact congrArg v (funext fun a => a.elim0)

theorem past_at (M : IVec S8192 1) (k : Fin 8192) : past M (ix1 k) = IntOp.cmpi .sge (BitVec.ofNat 32 k.val) (total M ix0) := by
  unfold past
  show IntOp.cmpi .sge (BitVec.ofNat 32 k.val) (broadcastInDim S8192 ![0] bcast_S1_S8192_0 (broadcastInDim S1 ![] bcast_S_S1 (total M)) (ix1 k)) = _
  rw [scalar_twice]

theorem here_at (M : IVec S8192 1) (k : Fin 8192) : here M (ix1 k) = IntOp.cmpi .slt (BitVec.ofNat 32 k.val) (total M ix0) := by
  unfold here
  show IntOp.cmpi .slt (BitVec.ofNat 32 k.val) (broadcastInDim S8192 ![] bcast_S_S8192 (total M) (ix1 k)) = _
  rw [bc0]

/-- A vector at a word that numbers a center. -/
theorem vectors_apply (cen : Vec F S65536x128 .f32) (W : IVec S8192 32) (k : Fin 8192) (y : Fin 128) (h : (W (ix1 k)).toNat < 65536) :
    vectors cen W (ix2 k y) = cen (ix2 ⟨(W (ix1 k)).toNat, h⟩ y) := by
  have hc := column_at bcast_S_S8192 bcast_S8192_S8192x1_0 65536#32 W k (by omega)
  unfold vectors
  generalize column bcast_S_S8192 bcast_S8192_S8192x1_0 65536#32 W = col at hc ⊢
  rw [select_apply, spread_at bcast_S8192_S8192x128_0 _ k y,
    inside_at bcast_S_S8192x1 bcast_S1_S1x1_1 bcast_S1x1_S8192x1_0_1 reducesTo_S8192x1_S8192_d1 h_S_ 65535 (by omega) col k (by rw [hc]; omega),
    ValueIdx.select_one, rows_at gather_S65536x128_S8192x1_S8192x128_1_0_n_n_0_1_1128 rfl rfl rfl rfl rfl cen col k y (by rw [hc]; exact h) (by omega)]
  exact congrArg (fun n : Fin 65536 => cen (ix2 n y)) (Fin.ext (congrArg BitVec.toNat hc))

/-- A vector at a place. -/
theorem vectorsAt_apply (vec : Vec F S8192x128 .f32) (places : IVec S4096 32) (p : Fin 4096) (y : Fin 128) (k : Fin 8192)
    (h : places (ix1 p) = BitVec.ofNat 32 k.val) : vectorsAt vec places (ix2 p y) = vec (ix2 k y) := by
  have hk := k.isLt
  have hn : (places (ix1 p)).toNat = k.val := by rw [h, toNat_small (N := 8192) (by omega) hk.le]
  have hc := (congrArg BitVec.toNat (column_at bcast_S_S4096 bcast_S4096_S4096x1_0 8192#32 places p (by omega))).trans hn
  unfold vectorsAt
  generalize column bcast_S_S4096 bcast_S4096_S4096x1_0 8192#32 places = col at hc ⊢
  rw [select_apply, spread_at bcast_S4096_S4096x128_0 _ p y,
    inside_at bcast_S_S4096x1 bcast_S1_S1x1_1 bcast_S1x1_S4096x1_0_1 reducesTo_S4096x1_S4096_d1 h_S_ 8191 (by omega) col p (by rw [hc]; omega),
    ValueIdx.select_one, rows_at gather_S8192x128_S4096x1_S4096x128_1_0_n_n_0_1_1128 rfl rfl rfl rfl rfl vec col p y (by rw [hc]; exact hk) (by omega)]
  exact congrArg (fun n : Fin 8192 => vec (ix2 n y)) (Fin.ext hc)

/-- A word of the list is in the list of the distinct words, at the place that counting finds. -/
theorem distinct_at (v : IVec S8192 32) (q : IVec S4096 32) (p : Fin 4096) (hq : ∃ i : Fin 8192, v (ix1 i) = q (ix1 p)) :
    ∃ k : Fin 8192, numBelow (distinct v) q (ix1 p) = BitVec.ofNat 32 k.val ∧ distinct v (ix1 k) = q (ix1 p) := by
  have hN : 8192 < 2 ^ 31 := by omega
  obtain ⟨hs, hin, hof⟩ := sorted_at hN comparator_i32_i32_d0 (fun _ _ => rfl) v _
    (key_eq shapeCasts_S8192_S8192x1 transposes_S8192x1_S1x8192_1_0 slices_S1x8192_S1x8192_0_0 shapeCasts_S1x8192_S8192 v)
    bcast_S_S8192 bcast_S8192_S8192x1_0 gather_S8192_S8192x1_S8192_n_0_n_n_0_1_1 rfl rfl rfl rfl 8192#32 (ascending v) rfl
  have hF : ∀ i : Fin 8192, marks (ascending v) (ix1 i) = 1#1 ↔ First (seqOf (ascending v)) i.val := fun i =>
    marks_at (M := 8191) rfl (ascending v) bcast_S_S8192 bcast_S_S1 slices_S8192_S8191_1 slices_S8192_S8191_0 reducesTo_S8191_S8191_d h_S_
      scatter_S8192_S1_S8191_0_n_0_0 rfl rfl i
  have hinit : broadcastInDim S_ ![] bcast_S_S_ (constantI S_ 32 0#32) ix0 = 0#32 := bc0 bcast_S_S_ _ _
  have hC : ∀ i : Fin 8192, running (extui 32 (marks (ascending v)) natLt_1_32) (ix1 i) = BitVec.ofNat 32 (Nat.count (First (seqOf (ascending v))) (i.val + 1)) := fun i =>
    counts_at (M := 8191) rfl (First (seqOf (ascending v))) (marks (ascending v)) hF natLt_1_32 _ hinit reduceWindows_S8192_S8192_w8192s1p8191_0 h_S_ i
  have hQ : ∀ k : Fin 8192, running (tally (running (extui 32 (marks (ascending v)) natLt_1_32))) (ix1 k) = BitVec.ofNat 32 (placeOf (seqOf (ascending v)) 8192 k.val) := fun k =>
    places_at (M := 8191) rfl hN (First (seqOf (ascending v))) _ hC bcast_S_S8192 bcast_S8192_S8192x1_0 8192#32 scatter_S8192_S8192x1_S8192_n_0_0_1 rfl rfl rfl
      _ hinit reduceWindows_S8192_S8192_w8192s1p8191_0 h_S_ k
  have hT : total (marks (ascending v)) ix0 = BitVec.ofNat 32 (Nat.count (First (seqOf (ascending v))) 8192) :=
    total_at (First (seqOf (ascending v))) (marks (ascending v)) hF natLt_1_32 reducesTo_S8192_S_d0 h_S_
  have hW := kinds_at hN (ascending v) (Host.reduce IntOp.maxsi v (constantI S_ 32 2147483648#32) reducesTo_S8192_S_d0 h_S_) (total (marks (ascending v)))
    (constantI S_ 32 1#32) (constantI S_ 32 8192#32) (constantI S_ 32 0#32) _ (distinct v) bcast_S_S8192 bcast_S8192_S8192x1_0 8192#32
    gather_S8192_S8192x1_S8192_n_0_n_n_0_1_1 rfl rfl rfl rfl (past (marks (ascending v))) (here (marks (ascending v))) hQ rfl rfl rfl hT
    (past_at _) (here_at _) rfl
  refine found_at hN (ascending v) (distinct v) _ hs (fun i hi => ?_) hW q p ?_ bcast_S8192_S1x8192_1 bcast_S1x8192_S4096x8192_0_1 bcast_S4096_S4096x1_0
    bcast_S4096x1_S4096x8192_0_1 natLt_1_32 reducesTo_S4096x8192_S4096_d1 h_S_
  · obtain ⟨j, hj⟩ := hof i hi
    rw [hj]
    exact le_greatest v (constantI S_ 32 2147483648#32) reducesTo_S8192_S_d0 h_S_ (ix1 j)
  · obtain ⟨j, hj⟩ := hq
    rw [← hj]
    exact hin j

/-- The lookup at a row and a column. -/
theorem lookup_at {α : Type} {R C M N : ℕ} [NeZero R] [NeZero C] [NeZero M] [NeZero N] (cen : (shape2 R C).Idx → α) (tab : IVec (shape1 M) 32) (ids : IVec (shape1 N) 32)
    (p : Fin N) (y : Fin C) (h : (centerOf tab ids p.val).toNat < R) : lookup cen tab ids (ix2 p y) = cen (ix2 ⟨(centerOf tab ids p.val).toNat, h⟩ y) := by
  show cen (ix2 (Fin.ofNat R (centerOf tab ids p.val).toNat) (Fin.ofNat C y.val)) = _
  exact congrArg cen (congrArg₂ ix2 (Fin.ext (Nat.mod_eq_of_lt h)) (Fin.ext (Nat.mod_eq_of_lt y.isLt)))

/-- THE REFERENCE IS THE LOOKUP. -/
theorem found_eq (cen : Vec F S65536x128 .f32) (tab : IVec S1000000 32) (a b ids : IVec S4096 32) (hids : ids = a ∨ ids = b)
    (htab : ∀ i, (tab i).toNat < 65536) (hid : ∀ i, (ids i).toNat < 1000000) : found cen tab a b ids = lookup cen tab ids := by
  funext x
  obtain ⟨p, y, rfl⟩ : ∃ (p : Fin 4096) (y : Fin 128), x = ix2 p y := ⟨x 0, x 1, eq_ix2 x⟩
  obtain ⟨k, hk, hd⟩ := distinct_at (asked tab a b) (entries tab ids) p (asked_of_entries tab a b ids hids p)
  have he : distinct (asked tab a b) (ix1 k) = centerOf tab ids p.val := hd.trans (entries_apply tab ids p (hid _))
  have hlt : (centerOf tab ids p.val).toNat < 65536 := htab _
  unfold found
  rw [vectorsAt_apply _ _ p y k hk, vectors_apply cen (distinct (asked tab a b)) k y ((congrArg BitVec.toNat he).trans_lt hlt), lookup_at cen tab ids p y hlt]
  simp only [he]

/-- The two results, of the four arguments. -/
theorem results_eq (V : Valuation τ sig (Elt F)) (cen : Vec F S65536x128 .f32) (tab : IVec S1000000 32) (a b : IVec S4096 32)
    (h0 : V (Proc.devRef .tc main_arg0) = cen) (h1 : V (Proc.devRef .tc main_arg1) = tab) (h2 : V (Proc.devRef .tc main_arg2) = a)
    (h3 : V (Proc.devRef .tc main_arg3) = b) (htab : ∀ i, (tab i).toNat < 65536) (ha : ∀ i, (a i).toNat < 1000000) (hb : ∀ i, (b i).toNat < 1000000) :
    StableHlo.after ops V (Proc.devRef .tc main_v53) = (lookup cen tab a :) ∧ StableHlo.after ops V (Proc.devRef .tc main_v54) = (lookup cen tab b :) := by
  obtain ⟨e53, e54⟩ := read_results V
  rw [h0, h1, h2, h3] at e53 e54
  exact ⟨e53.trans (found_eq cen tab a b a (Or.inl rfl) htab ha), e54.trans (found_eq cen tab a b b (Or.inr rfl) htab hb)⟩

end Cert.Proof.OfReference

end
-- ==== Proof.Steps.lean ====
/-
  The three steps the kernel's tasks are made of, each as one rule about a single command: a copy started, an indirect
  gather started, a transfer waited for. A buffer's part is held by exactly the elements of the view that names it, and
  what a transfer delivers is stated over contents `G` of the whole destination buffer chosen beforehand: the destination's
  view reads in `G` what the transfer brings. So one function per buffer describes every part of it at the end.
-/
module

public import Idealize.ShloMosaic.Lib.Transfers
public import Idealize.ShloMosaic.Lib.SparseCore.Ops
public import Idealize.ShloMosaic.Lib.SparseCore.Stream
public import Idealize.ShloMosaic.Lib.SparseCore.Quiescent
public import Idealize.ShloMosaic.Lib.ValueLayout
public import Idealize.ShloMosaic.Lib.ViewIndex

@[expose] public section

noncomputable section

namespace Cert.Proof.Steps

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {F : FTy → Type} {Name : Type} [DecidableEq Name]
variable {U : Type} [URA U] {Lvl : Type} [Preorder Lvl] {Λ : Labels}

local notation "𝕄" => MT nD τ sig Ix (Elt F) Name U Lvl

/-- A view's own elements at contents agreeing with `G` on what the view reads are its elements at `G`. -/
theorem own_of_read (c : Thread nD τ) {sp : Space} {s : Shape} {e : EltTy} (v : View sig c.2.kind sp s e) (q : PosShare TreeShare)
    (f G : Buf (Elt F) (v.loc c)) (w : s.Idx → Elt F e) (hG : v.read (Elt F) G = w) :
    (v.loc c ↦[v.set]{q} (v.write (Elt F) f w Finset.univ) : sProp 𝕄) = v.loc c ↦[v.set]{q} G := by
  subst hG
  refine pointsTo_congr fun i hi => ?_
  obtain ⟨x, -, rfl⟩ := Finset.mem_map.mp hi
  exact View.eq_of_read_eq (View.read_write_of_mem f _ (Finset.mem_univ x))

omit [DecidableEq Ix] [DecidableEq Name] [URA U] [Preorder Lvl] in
/-- A part of a buffer cut in two. -/
theorem pts_two [DecidableEq Ix] [DecidableEq Name] [URA U] {ℓ : Loc nD τ sig} {I A B : Finset (Idx ℓ)} (hI : ∀ x, x ∈ I ↔ x ∈ A ∨ x ∈ B)
    (hd : ∀ x, x ∈ A → x ∉ B) (q : PosShare TreeShare) (f : Buf (Elt F) ℓ) :
    (ℓ ↦[I]{q} f : sProp 𝕄) = iprop((ℓ ↦[A]{q} f) ∗ ℓ ↦[B]{q} f) := by
  have e : I = A ∪ B := Finset.ext fun x => (hI x).trans Finset.mem_union.symm
  have h := pointsTo_union (Ix := Ix) (Name := Name) (U := U) (Lvl := Lvl) (q := q) (f := f) (Finset.disjoint_left.mpr hd)
  rw [e]
  exact Entails.antisymm h.1 h.2

/-- A share of a part of a buffer cut in two. -/
theorem pts_halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  have h := pointsTo_share (PosShare.mem_left_op_right q)
  Entails.antisymm h.1 h.2

/-- A subcore's twelve DMA semaphores at zero, one by one. -/
theorem sems_twelve {S : Finset (GSem nD τ sig)} (c : Thread nD τ) (k : Fin 12 → DmaSem sig) (hk : Function.Injective k)
    (hS : ∀ i, (c, SemLoc.dma (k i)) ∈ S) :
    (bigSep S fun g => semVal g 0 : sProp 𝕄)
      = iprop((semVal (c, .dma (k 0)) 0 ∗ semVal (c, .dma (k 1)) 0 ∗ semVal (c, .dma (k 2)) 0 ∗ semVal (c, .dma (k 3)) 0
          ∗ semVal (c, .dma (k 4)) 0 ∗ semVal (c, .dma (k 5)) 0 ∗ semVal (c, .dma (k 6)) 0 ∗ semVal (c, .dma (k 7)) 0
          ∗ semVal (c, .dma (k 8)) 0 ∗ semVal (c, .dma (k 9)) 0 ∗ semVal (c, .dma (k 10)) 0 ∗ semVal (c, .dma (k 11)) 0)
          ∗ bigSep (S \ Finset.univ.image fun i => ((c, SemLoc.dma (k i)) : GSem nD τ sig)) fun g => semVal g 0) := by
  have hinj : Function.Injective fun i => ((c, SemLoc.dma (k i)) : GSem nD τ sig) := fun i j h => hk (SemLoc.dma.inj (congrArg Prod.snd h))
  have hsub : (Finset.univ.image fun i => ((c, SemLoc.dma (k i)) : GSem nD τ sig)) ⊆ S := fun g hg => by
    obtain ⟨i, -, rfl⟩ := Finset.mem_image.mp hg; exact hS i
  rw [SparseCore.bigSep_sdiff_split' hsub, SparseCore.bigSep_image_of_injOn hinj.injOn,
    show (Finset.univ : Finset (Fin 12)) = {0, 1, 2, 3, 4, 5, 6, 7, 8, 9, 10, 11} by decide]
  iterate 11 rw [SparseCore.bigSep_insert' (by decide)]
  rw [bigSep_singleton]

variable (EC : UEmb Counters (MT nD τ sig Ix (Elt F) Name U Lvl)) {defs : Defs nD τ sig (Elt F) Λ} (𝒱 : Variants) (c : Thread nD τ) (bd : Option 𝒱.V)
variable {sp sp' : Space} {s s₀ si : Shape} {e : EltTy} {a : Nat} {Q : PUnit → sProp (MT nD τ sig Ix (Elt F) Name U Lvl)}

/-- A copy started: from the source's elements, the destination's own elements and the semaphore at zero, the copy is in
    flight, to deliver the destination at `G` and the source back. -/
theorem copy_start [Infinite Name] [EC.LandsIn (upEmb : UEmb _ 𝕄)]
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {q : PosShare TreeShare} {fs : Buf (Elt F) (src.view.loc c)} {fd : Buf (Elt F) (dst.view.loc c)} (ι : Ix)
    (hs : 0 < s.numel) (G : Buf (Elt F) (dst.view.loc c)) (hG : dst.view.read (Elt F) G = src.view.read (Elt F) fs) :
    iprop((src.view.loc c ↦[src.view.set]{q} fs) ∗ (dst.view.loc c ↦[dst.view.set]{fullShare} fd) ∗ semVal (c, SemLoc.dma sem) 0)
      ⊢ iprop((Flight EC c (.dma sem) ι dst.view.dmaCredit
                  iprop((dst.view.loc c ↦[dst.view.set]{fullShare} G) ∗ (src.view.loc c ↦[src.view.set]{q} fs)) -∗ Q ⟨⟩)
          -∗ wp frame (wpE defs 𝒱 c bd) Set.univ (Prog.lift (.enqueueDma src (.here dst) (.dma sem) hsrc hdst hsem)) Q) := by
  have hw := own_of_read (Ix := Ix) (Name := Name) (U := U) (Lvl := Lvl) c dst.view fullShare fd G (src.view.read (Elt F) fs) hG
  refine (wp_dmaLocal (Q := Q) EC 𝒱 c bd ι dst.view.dmaCredit (defs := defs) (hsrc := hsrc) (hdst := hdst) (hsem := hsem) (via := .same) (k := .ret) rfl (dst.view.dmaCredit_pos hs) (Finset.Subset.refl _)).trans ?_
  iintro H Hk
  iapply H
  iintro Hf
  iapply (le_wp_ret frame (wpE defs 𝒱 c bd) Set.univ (⟨⟩ : PUnit) Q)
  iapply Hk
  iapply (Flight_mono EC c (sep_mono (Entails.of_eq hw) (Entails.of_eq rfl))) $$ Hf

/-- An indirect gather started: from the source's elements, the destination's own elements, the list's own elements with
    every word in range, and the semaphore at zero, the gather is in flight, to deliver the destination at `G` and the
    source and the list back. -/
theorem gather_start [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {q qo : PosShare TreeShare} {fs : Buf (Elt F) (src.view.loc c)} {fd : Buf (Elt F) (dst.view.loc c)} {fo : Buf (Elt F) (offs.view.loc c)} (ι : Ix)
    (hN : ∑ j, (dst.slice (s.rowRect hg.axis' j) (s.stride_rowRect hg.axis' j)).view.dmaCredit = dst.view.dmaCredit)
    (hs : 0 < s.numel) (hin : ∀ x, (offs.view.read (Elt F) fo x).toNat < s₀.size hg.axis) (G : Buf (Elt F) (dst.view.loc c))
    (hG : dst.view.read (Elt F) G = SparseCore.gatherPayload hg (src.view.read (Elt F) fs) (SparseCore.rows (offs.view.read (Elt F) fo) hn hin)) :
    iprop((src.view.loc c ↦[src.view.set]{q} fs) ∗ (dst.view.loc c ↦[dst.view.set]{fullShare} fd)
        ∗ (offs.view.loc c ↦[offs.view.set]{qo} fo) ∗ semVal (c, SemLoc.dma sem) 0)
      ⊢ iprop((Flight EC c (.dma sem) ι dst.view.dmaCredit
                  iprop((dst.view.loc c ↦[dst.view.set]{fullShare} G) ∗ (src.view.loc c ↦[src.view.set]{q} fs)
                    ∗ (offs.view.loc c ↦[offs.view.set]{qo} fo)) -∗ Q ⟨⟩)
          -∗ wp frame (wpE defs 𝒱 c bd) Set.univ (SparseCore.enqueueIndirectGather hp src dst hg offs hn sem hsrc he hsp hr) Q) := by
  have hw := own_of_read (Ix := Ix) (Name := Name) (U := U) (Lvl := Lvl) c dst.view fullShare fd G _ hG
  refine (SparseCore.wp_indirectGatherLocal (Q := Q) (defs := defs) (hp := hp) (hn := hn) (hsrc := hsrc) (he := he) (hsp := hsp) (hr := hr) (sem := sem) EC 𝒱 c bd ι _ hN hs hin (k := .ret)).trans ?_
  iintro H Hk
  iapply H
  iintro Hf
  iapply (le_wp_ret frame (wpE defs 𝒱 c bd) Set.univ (⟨⟩ : PUnit) Q)
  iapply Hk
  iapply (Flight_mono EC c (sep_mono (Entails.of_eq hw) (Entails.of_eq rfl))) $$ Hf

/-- What a thread owes, its waits so far all either waits it entered with or waits at the index `ι`. -/
def Owing (c : Thread nD τ) (O : CellTallies nD τ sig Ix) (W : Waits sig Ix) (ι : Ix) : sProp 𝕄 :=
  iprop(∃ W', ⌜∀ p ∈ W', p ∈ W ∨ p.2 = ι⌝ ∗ owes c O W')

/-- A transfer waited for: its delivery is handed over and the semaphore is back at zero. -/
theorem wait_done [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    (ι : Ix) {N : ℕ} (hN : dstw.view.dmaCredit = N) {D : sProp 𝕄} {O : CellTallies nD τ sig Ix} {W : Waits sig Ix} :
    iprop(Flight EC c (.dma sem) ι N D ∗ Owing c O W ι ∗ MayWaits c ι O)
      ⊢ iprop((iprop(D ∗ semVal (c, .dma sem) 0 ∗ Owing c O W ι) -∗ Q ⟨⟩)
          -∗ wp frame (wpE defs 𝒱 c bd) Set.univ (Prog.lift (.waitDma2 sem srcw dstw hsrc hdst)) Q) := by
  unfold Owing
  iintro ⟨Hf, ⟨%W', %hW', HO⟩, Hmw⟩ Hk
  iapply (wp_waitLocalO (Q := Q) EC 𝒱 c bd ι hN (k := .ret)) $$ [Hf HO Hmw]
  · isplitl [Hf]; · iexact Hf
    isplitl [HO]; · iexact HO
    iapply (MayWaits.elim (SemLoc.dma sem)) $$ Hmw
  iintro ⟨HD, Hv, HO⟩
  iapply (le_wp_ret frame (wpE defs 𝒱 c bd) Set.univ (⟨⟩ : PUnit) Q)
  iapply Hk
  isplitl [HD]; · iexact HD
  isplitl [Hv]; · iexact Hv
  iexists _; isplitr
  swap; · iexact HO
  ipureintro; intro p hp
  rcases Finset.mem_insert.mp hp with hp | hp
  · exact .inr (hp ▸ rfl)
  · exact hW' p hp

end Cert.Proof.Steps

end
-- ==== Proof.KernelIdealTile.lean ====
/-
  One task of the kernel: vector subcore `(L 0, L 1)` fetches its 128 document numbers from each of the two lists, looks
  their centers up in the table by an indirect gather, gathers the centers' vectors 64 at a time, and copies the four blocks
  of 64 rows to its rows of the two results. Each transfer has a semaphore of its own, so up to four are in flight at once.
  Every buffer the task writes is described by one function, named before the task runs: a transfer delivers the part of it
  that its destination is.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Steps
public import proofs.«01_k».proof.Proof.Reads

@[expose] public section

noncomputable section

namespace Cert.Proof.OfKernelIdeal

open Cert.KernelIdeal Cert.KernelIdeal.Gen
open Cert.Proof.Steps Cert.Proof.Reads

open Idealize.ShloMosaic Idealize.ShloMosaic.ValueIdx Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ)

abbrev cenLoc (d : Dev nD) : Loc nD τ sig := (SparseCore.T d).loc main_arg0
abbrev tabLoc (d : Dev nD) : Loc nD τ sig := (SparseCore.T d).loc main_arg1
abbrev docLoc (d : Dev nD) : Loc nD τ sig := (SparseCore.T d).loc main_arg2
abbrev negLoc (d : Dev nD) : Loc nD τ sig := (SparseCore.T d).loc main_arg3
abbrev posLoc (d : Dev nD) : Loc nD τ sig := (SparseCore.T d).loc main_v0_0
abbrev othLoc (d : Dev nD) : Loc nD τ sig := (SparseCore.T d).loc main_v0_1

local notation "cenV" => (Memref.whole Cert.KernelIdeal.main_arg0_scv : Memref Cert.KernelIdeal.sig Kind.scVector Space.hbm Cert.KernelIdeal.S65536x128 EltTy.f32)
local notation "tabV" => (Memref.whole Cert.KernelIdeal.main_arg1_scv : Memref Cert.KernelIdeal.sig Kind.scVector Space.hbm Cert.KernelIdeal.S1000000 EltTy.i32)
local notation "docV" => (Memref.whole Cert.KernelIdeal.main_arg2_scv : Memref Cert.KernelIdeal.sig Kind.scVector Space.hbm Cert.KernelIdeal.S4096 EltTy.i32)
local notation "negV" => (Memref.whole Cert.KernelIdeal.main_arg3_scv : Memref Cert.KernelIdeal.sig Kind.scVector Space.hbm Cert.KernelIdeal.S4096 EltTy.i32)
local notation "posV" => (Memref.whole Cert.KernelIdeal.main_v0_0_scv : Memref Cert.KernelIdeal.sig Kind.scVector Space.hbm Cert.KernelIdeal.S4096x128 EltTy.f32)
local notation "othV" => (Memref.whole Cert.KernelIdeal.main_v0_1_scv : Memref Cert.KernelIdeal.sig Kind.scVector Space.hbm Cert.KernelIdeal.S4096x128 EltTy.f32)
local notation "idsV" => (Memref.whole Cert.KernelIdeal.cc0_scratch0 : Memref Cert.KernelIdeal.sig Kind.scVector Space.vmem Cert.KernelIdeal.S2x128 EltTy.i32)
local notation "cidV" => (Memref.whole Cert.KernelIdeal.cc0_scratch1 : Memref Cert.KernelIdeal.sig Kind.scVector Space.vmem Cert.KernelIdeal.S2x128 EltTy.i32)
local notation "rowV" => (Memref.whole Cert.KernelIdeal.cc0_scratch2 : Memref Cert.KernelIdeal.sig Kind.scVector Space.vmem Cert.KernelIdeal.S2x2x64x128 EltTy.f32)

/-! ## The values -/

/-- The launch contents of the four inputs, as arrays. -/
abbrev cen (d : Dev nD) : S65536x128.Idx → F .f32 := m (cenLoc d)
abbrev tab (d : Dev nD) : S1000000.Idx → BitVec 32 := m (tabLoc d)
abbrev doc (d : Dev nD) : S4096.Idx → BitVec 32 := m (docLoc d)
abbrev neg (d : Dev nD) : S4096.Idx → BitVec 32 := m (negLoc d)

/-- The list of documents the first or the second result is for. -/
abbrev list (d : Dev nD) (j : ℕ) : S4096.Idx → BitVec 32 := if j = 0 then doc m d else neg m d

/-- The results: the centers' vectors of either list. -/
abbrev result (d : Dev nD) (j : ℕ) : S4096x128.Idx → F .f32 := lookup (cen m d) (tab m d) (list m d j)

/-- What the proof asks of the launch memory: every center number and every document number is in range. -/
def PreOK : Prop := ∀ d : Dev nD, (∀ i, (tab m d i).toNat < 65536) ∧ (∀ i, (doc m d i).toNat < 1000000) ∧ ∀ i, (neg m d i).toNat < 1000000

/-- The first document number of the task's. -/
abbrev base (L : grid0.Coords) : ℕ := 256 * (L 1).val + 128 * (L 0).val

/-- What the three scratch buffers come to hold: the task's document numbers, their centers, the centers' vectors. -/
def idsG (d : Dev nD) (L : grid0.Coords) : S2x128.Idx → BitVec 32 := fun x => at1 (list m d (x 0).val) (base L + (x 1).val)
def cidG (d : Dev nD) (L : grid0.Coords) : S2x128.Idx → BitVec 32 := fun x => centerOf (tab m d) (list m d (x 0).val) (base L + (x 1).val)
def rowG (d : Dev nD) (L : grid0.Coords) : S2x2x64x128.Idx → F .f32 := fun x =>
  at2 (cen m d) (centerOf (tab m d) (list m d (x 0).val) (base L + (64 * (x 1).val + (x 2).val))).toNat (x 3).val

/-! ## The parts the task addresses -/

abbrev listSeg (M : Memref sig .scVector .hbm S4096 .i32) (L : grid0.Coords) : Memref sig .scVector .hbm S128 .i32 :=
  M.slice (Rect.unit (s := S4096) (k0_off1 L) S128.size (k0_off1_inb L)) (fun _ => rfl)
abbrev tabAll : Memref sig .scVector .hbm S1000000 .i32 := (tabV).slice (Rect.unit (s := S1000000) ![0] S1000000.size inb_S1000000_S1000000_0) (fun _ => rfl)
abbrev cenAll : Memref sig .scVector .hbm S65536x128 .f32 :=
  (cenV).slice (Rect.unit (s := S65536x128) ![0, 0] S65536x128.size inb_S65536x128_S65536x128_0_0) (fun _ => rfl)
abbrev line (M : Memref sig .scVector .vmem S2x128 .i32) (off : Fin 2 → ℕ) (inb : ∀ a, off a + S1x128.size a ≤ S2x128.size a) :
    Memref sig .scVector .vmem S128 .i32 := (M.slice (Rect.unit (s := S2x128) off S1x128.size inb) (fun _ => rfl)).squeeze S128 squeezes_S1x128_S128
abbrev half (off : Fin 2 → ℕ) (inb : ∀ a, off a + S1x64.size a ≤ S2x128.size a) :
    Memref sig .scVector .vmem S64 .i32 := ((cidV).slice (Rect.unit (s := S2x128) off S1x64.size inb) (fun _ => rfl)).squeeze S64 squeezes_S1x64_S64
abbrev block (off : Fin 4 → ℕ) (inb : ∀ a, off a + S1x1x64x128.size a ≤ S2x2x64x128.size a) :
    Memref sig .scVector .vmem S64x128 .f32 :=
  ((rowV).slice (Rect.unit (s := S2x2x64x128) off S1x1x64x128.size inb) (fun _ => rfl)).squeeze S64x128 squeezes_S1x1x64x128_S64x128
abbrev outSeg (M : Memref sig .scVector .hbm S4096x128 .f32) (off : Fin 2 → ℕ) (inb : ∀ a, off a + S64x128.size a ≤ S4096x128.size a) :
    Memref sig .scVector .hbm S64x128 .f32 := M.slice (Rect.unit (s := S4096x128) off S64x128.size inb) (fun _ => rfl)

section Values

variable (d : Dev nD) (L : grid0.Coords)

abbrev thr : Thread nD τ := V d ((L 0).castLE hcore0) ((L 1).castLE hsub0)

/-- A run of the documents fetched: the scratch line is the list's. -/
theorem ids_read (M : Memref sig .scVector .hbm S4096 .i32) (f : M.view.ty.Contents (Elt F)) (j : ℕ) (hf : ∀ i, M.view.read (Elt F) f i = list m d j i)
    {off : Fin 2 → ℕ} (inb : ∀ a, off a + S1x128.size a ≤ S2x128.size a) (ho : off = ![j, 0]) :
    (line idsV off inb).view.read (Elt F) (idsG m d L) = (listSeg M L).view.read (Elt F) f := by
  subst ho
  funext k
  refine (read_row (Val := Elt F) (idsV) inb _ squeezes_S1x128_S128 (idsG m d L) (fun a b => at1 (list m d a) (base L + b)) (fun _ => rfl) k).trans ?_
  refine Eq.trans ?_ (read_seg (Val := Elt F) M (k0_off1_inb L) (fun _ => rfl) f (at1 (list m d j)) (fun i => (hf i).trans (at1_val _ i).symm) k).symm
  rw [k0_off1_eq]
  exact congrArg (at1 (list m d j)) (congrArg (base L + ·) (Nat.zero_add _))

/-- The line of document numbers, entry by entry. -/
theorem ids_entry {off : Fin 2 → ℕ} (inb : ∀ a, off a + S1x128.size a ≤ S2x128.size a) (j : ℕ) (ho : off = ![j, 0]) (x : S128.Idx) :
    (line idsV off inb).view.read (Elt F) (idsG m d L) x = at1 (list m d j) (base L + (x 0).val) := by
  subst ho
  refine (read_row (Val := Elt F) (idsV) inb _ squeezes_S1x128_S128 (idsG m d L) (fun a b => at1 (list m d a) (base L + b)) (fun _ => rfl) x).trans ?_
  exact congrArg (fun n => at1 (list m d j) (base L + n)) (Nat.zero_add _)

/-- Every document number is a row of the table, -/
theorem ids_inb (hpre : PreOK m) {off : Fin 2 → ℕ} (inb : ∀ a, off a + S1x128.size a ≤ S2x128.size a) (j : ℕ) (ho : off = ![j, 0]) (x : S128.Idx) :
    ((line idsV off inb).view.read (Elt F) (idsG m d L) x).toNat < S1000000.size gathers_S1000000_S128.axis := by
  rw [ids_entry m d L inb j ho]
  show (list m d j _).toNat < 1000000
  unfold list
  split
  · exact (hpre d).2.1 _
  · exact (hpre d).2.2 _

/-- and the table gathered at them is the line of centers. -/
theorem cid_read {off : Fin 2 → ℕ} (inb : ∀ a, off a + S1x128.size a ≤ S2x128.size a) (j : ℕ) (ho : off = ![j, 0])
    (hn : S128.numel = S128.size gathers_S1000000_S128.axis')
    (hin : ∀ x, ((line idsV off inb).view.read (Elt F) (idsG m d L) x).toNat < S1000000.size gathers_S1000000_S128.axis) :
    (line cidV off inb).view.read (Elt F) (cidG m d L)
      = SparseCore.gatherPayload gathers_S1000000_S128 ((tabAll).view.read (Elt F) (m (tabLoc d)))
          (SparseCore.rows ((line idsV off inb).view.read (Elt F) (idsG m d L)) hn hin) := by
  funext k
  refine Eq.trans ?_ (gather_vec (F := F) (e := .i32) gathers_S1000000_S128 _ _ hn hin (at1 (tab m d)) (fun n => at1 (list m d j) (base L + n))
    (fun i => (read_seg (Val := Elt F) (tabV) inb_S1000000_S1000000_0 (fun _ => rfl) (m (tabLoc d)) (at1 (tab m d)) (fun i => (at1_val (tab m d) i).symm) i).trans
      (congrArg (at1 (tab m d)) (Nat.zero_add _)))
    (ids_entry m d L inb j ho) k).symm
  subst ho
  refine (read_row (Val := Elt F) (cidV) inb _ squeezes_S1x128_S128 (cidG m d L) (fun a b => centerOf (tab m d) (list m d a) (base L + b)) (fun _ => rfl) k).trans ?_
  exact congrArg (fun n => centerOf (tab m d) (list m d j) (base L + n)) (Nat.zero_add _)

/-- Half a line of centers, entry by entry. -/
theorem cid_entry {off : Fin 2 → ℕ} (inb : ∀ a, off a + S1x64.size a ≤ S2x128.size a) (j h : ℕ) (ho : off = ![j, 64 * h]) (x : S64.Idx) :
    (half off inb).view.read (Elt F) (cidG m d L) x = centerOf (tab m d) (list m d j) (base L + (64 * h + (x 0).val)) := by
  subst ho
  exact read_row (Val := Elt F) (cidV) inb _ squeezes_S1x64_S64 (cidG m d L) (fun a b => centerOf (tab m d) (list m d a) (base L + b)) (fun _ => rfl) x

/-- Every center's number is a row of the array of vectors, -/
theorem cid_inb (hpre : PreOK m) {off : Fin 2 → ℕ} (inb : ∀ a, off a + S1x64.size a ≤ S2x128.size a) (j h : ℕ) (ho : off = ![j, 64 * h]) (x : S64.Idx) :
    ((half off inb).view.read (Elt F) (cidG m d L) x).toNat < S65536x128.size gathers_S65536x128_S64x128.axis := by
  rw [cid_entry m d L inb j h ho]
  exact (hpre d).1 _

/-- and the vectors gathered at them are the block of rows. -/
theorem row_read {off : Fin 2 → ℕ} (inb : ∀ a, off a + S1x64.size a ≤ S2x128.size a) {off' : Fin 4 → ℕ}
    (inb' : ∀ a, off' a + S1x1x64x128.size a ≤ S2x2x64x128.size a) (j h : ℕ) (ho : off = ![j, 64 * h]) (ho' : off' = ![j, h, 0, 0])
    (hn : S64.numel = S64x128.size gathers_S65536x128_S64x128.axis')
    (hin : ∀ x, ((half off inb).view.read (Elt F) (cidG m d L) x).toNat < S65536x128.size gathers_S65536x128_S64x128.axis) :
    (block off' inb').view.read (Elt F) (rowG m d L)
      = SparseCore.gatherPayload gathers_S65536x128_S64x128 ((cenAll).view.read (Elt F) (m (cenLoc d)))
          (SparseCore.rows ((half off inb).view.read (Elt F) (cidG m d L)) hn hin) := by
  funext k
  refine Eq.trans ?_ (gather_rows (F := F) (e := .f32) gathers_S65536x128_S64x128 _ _ hn hin (at2 (cen m d))
    (fun n => centerOf (tab m d) (list m d j) (base L + (64 * h + n)))
    (fun i => (read_rows (Val := Elt F) (cenV) inb_S65536x128_S65536x128_0_0 (fun _ => rfl) (m (cenLoc d)) (at2 (cen m d)) (fun i => (at2_val (cen m d) i).symm) i).trans
      (congrArg₂ (at2 (cen m d)) (Nat.zero_add _) (Nat.zero_add _)))
    (cid_entry m d L inb j h ho) k).symm
  subst ho'
  refine (read_block (Val := Elt F) (rowV) inb' _ squeezes_S1x1x64x128_S64x128 (rowG m d L)
    (fun a b p q => at2 (cen m d) (centerOf (tab m d) (list m d a) (base L + (64 * b + p))).toNat q) (fun _ => rfl) k).trans ?_
  exact congrArg₂ (fun p q => at2 (cen m d) (centerOf (tab m d) (list m d j) (base L + (64 * h + p))).toNat q) (Nat.zero_add _) (Nat.zero_add _)

/-- A block of rows copied out is the result's rows. -/
theorem out_read (M : Memref sig .scVector .hbm S4096x128 .f32) (f : M.view.ty.Contents (Elt F)) (j h : ℕ) (hf : ∀ i, M.view.read (Elt F) f i = result m d j i)
    {off : Fin 2 → ℕ} (inb : ∀ a, off a + S64x128.size a ≤ S4096x128.size a) (ho : off = ![base L + 64 * h, 0])
    {off' : Fin 4 → ℕ} (inb' : ∀ a, off' a + S1x1x64x128.size a ≤ S2x2x64x128.size a) (ho' : off' = ![j, h, 0, 0]) :
    (outSeg M off inb).view.read (Elt F) f = (block off' inb').view.read (Elt F) (rowG m d L) := by
  subst ho ho'
  funext k
  refine (read_rows (Val := Elt F) M inb (fun _ => rfl) f (fun p q => at2 (cen m d) (centerOf (tab m d) (list m d j) p).toNat q) hf k).trans ?_
  refine Eq.trans ?_ (read_block (Val := Elt F) (rowV) inb' _ squeezes_S1x1x64x128_S64x128 (rowG m d L)
    (fun a b p q => at2 (cen m d) (centerOf (tab m d) (list m d a) (base L + (64 * b + p))).toNat q) (fun _ => rfl) k).symm
  refine congrArg₂ (fun p q => at2 (cen m d) (centerOf (tab m d) (list m d j) p).toNat q) ?_ rfl
  show base L + 64 * h + (k 0).val = base L + (64 * h + (0 + (k 0).val))
  omega

end Values

end Cert.Proof.OfKernelIdeal

end
-- ==== Proof.KernelIdealTask.lean ====
/-
  The task run: the scratch buffers and the results cut into the parts the transfers name, then the body's commands one
  after the other, each by its rule, and the parts put together again.
-/
module

public import proofs.«01_k».proof.Proof.KernelIdealTile

@[expose] public section

noncomputable section

namespace Cert.Proof.OfKernelIdeal

open Cert.KernelIdeal Cert.KernelIdeal.Gen
open Cert.Proof.Steps Cert.Proof.Reads

open Idealize.ShloMosaic Idealize.ShloMosaic.ValueIdx Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "cenV" => (Memref.whole Cert.KernelIdeal.main_arg0_scv : Memref Cert.KernelIdeal.sig Kind.scVector Space.hbm Cert.KernelIdeal.S65536x128 EltTy.f32)
local notation "tabV" => (Memref.whole Cert.KernelIdeal.main_arg1_scv : Memref Cert.KernelIdeal.sig Kind.scVector Space.hbm Cert.KernelIdeal.S1000000 EltTy.i32)
local notation "docV" => (Memref.whole Cert.KernelIdeal.main_arg2_scv : Memref Cert.KernelIdeal.sig Kind.scVector Space.hbm Cert.KernelIdeal.S4096 EltTy.i32)
local notation "negV" => (Memref.whole Cert.KernelIdeal.main_arg3_scv : Memref Cert.KernelIdeal.sig Kind.scVector Space.hbm Cert.KernelIdeal.S4096 EltTy.i32)
local notation "posV" => (Memref.whole Cert.KernelIdeal.main_v0_0_scv : Memref Cert.KernelIdeal.sig Kind.scVector Space.hbm Cert.KernelIdeal.S4096x128 EltTy.f32)
local notation "othV" => (Memref.whole Cert.KernelIdeal.main_v0_1_scv : Memref Cert.KernelIdeal.sig Kind.scVector Space.hbm Cert.KernelIdeal.S4096x128 EltTy.f32)
local notation "idsV" => (Memref.whole Cert.KernelIdeal.cc0_scratch0 : Memref Cert.KernelIdeal.sig Kind.scVector Space.vmem Cert.KernelIdeal.S2x128 EltTy.i32)
local notation "cidV" => (Memref.whole Cert.KernelIdeal.cc0_scratch1 : Memref Cert.KernelIdeal.sig Kind.scVector Space.vmem Cert.KernelIdeal.S2x128 EltTy.i32)
local notation "rowV" => (Memref.whole Cert.KernelIdeal.cc0_scratch2 : Memref Cert.KernelIdeal.sig Kind.scVector Space.vmem Cert.KernelIdeal.S2x2x64x128 EltTy.f32)

/-! ## The parts of the buffers -/

section Parts

variable (d : Dev nD) (L : grid0.Coords)

/-- A part held: a view's own elements, at a share. -/
abbrev own {sp : Space} {s : Shape} {e : EltTy} (M : Memref sig .scVector sp s e) (q : PosShare TreeShare) (f : Buf (Elt F) (M.view.loc (thr d L))) : sProp 𝕄 :=
  M.view.loc (thr d L) ↦[M.view.set]{q} f

theorem mem_line_ids {off : Fin 2 → ℕ} (inb : ∀ a, off a + S1x128.size a ≤ S2x128.size a) (j : ℕ) (ho : off = ![j, 0]) (x : S2x128.Idx) :
    x ∈ (line idsV off inb).view.set ↔ (x 0).val = j := by
  subst ho
  have e := set_part_squeezed (cc0_scratch0 : Ref sig .scVector) (Rect.unit (s := S2x128) ![j, 0] S1x128.size inb) (fun _ => rfl) S128 squeezes_S1x128_S128
  refine (Finset.ext_iff.mp e x).trans (Rect.mem_set_unit.trans (Fin.forall_fin_two.trans ?_))
  show ((j ≤ (x 0).val ∧ (x 0).val < j + 1) ∧ (0 ≤ (x 1).val ∧ (x 1).val < 0 + 128)) ↔ _
  have := (x 1).isLt
  change (x 1).val < 128 at this
  omega

theorem mem_line_cid {off : Fin 2 → ℕ} (inb : ∀ a, off a + S1x128.size a ≤ S2x128.size a) (j : ℕ) (ho : off = ![j, 0]) (x : S2x128.Idx) :
    x ∈ (line cidV off inb).view.set ↔ (x 0).val = j := by
  subst ho
  have e := set_part_squeezed (cc0_scratch1 : Ref sig .scVector) (Rect.unit (s := S2x128) ![j, 0] S1x128.size inb) (fun _ => rfl) S128 squeezes_S1x128_S128
  refine (Finset.ext_iff.mp e x).trans (Rect.mem_set_unit.trans (Fin.forall_fin_two.trans ?_))
  show ((j ≤ (x 0).val ∧ (x 0).val < j + 1) ∧ (0 ≤ (x 1).val ∧ (x 1).val < 0 + 128)) ↔ _
  have := (x 1).isLt
  change (x 1).val < 128 at this
  omega

theorem mem_half {off : Fin 2 → ℕ} (inb : ∀ a, off a + S1x64.size a ≤ S2x128.size a) (j h : ℕ) (ho : off = ![j, 64 * h]) (x : S2x128.Idx) :
    x ∈ (half off inb).view.set ↔ (x 0).val = j ∧ 64 * h ≤ (x 1).val ∧ (x 1).val < 64 * h + 64 := by
  subst ho
  have e := set_part_squeezed (cc0_scratch1 : Ref sig .scVector) (Rect.unit (s := S2x128) ![j, 64 * h] S1x64.size inb) (fun _ => rfl) S64 squeezes_S1x64_S64
  refine (Finset.ext_iff.mp e x).trans (Rect.mem_set_unit.trans (Fin.forall_fin_two.trans ?_))
  show ((j ≤ (x 0).val ∧ (x 0).val < j + 1) ∧ (64 * h ≤ (x 1).val ∧ (x 1).val < 64 * h + 64)) ↔ _
  omega

theorem mem_block {off : Fin 4 → ℕ} (inb : ∀ a, off a + S1x1x64x128.size a ≤ S2x2x64x128.size a) (j h : ℕ) (ho : off = ![j, h, 0, 0]) (x : S2x2x64x128.Idx) :
    x ∈ (block off inb).view.set ↔ (x 0).val = j ∧ (x 1).val = h := by
  subst ho
  have e := set_part_squeezed (cc0_scratch2 : Ref sig .scVector) (Rect.unit (s := S2x2x64x128) ![j, h, 0, 0] S1x1x64x128.size inb) (fun _ => rfl) S64x128
    squeezes_S1x1x64x128_S64x128
  refine (Finset.ext_iff.mp e x).trans (Rect.mem_set_unit.trans ?_)
  have h2 : (x 2).val < 64 := (x 2).isLt
  have h3 : (x 3).val < 128 := (x 3).isLt
  constructor
  · intro H
    have H0 : j ≤ (x 0).val ∧ (x 0).val < j + 1 := H 0
    have H1 : h ≤ (x 1).val ∧ (x 1).val < h + 1 := H 1
    omega
  · rintro ⟨H0, H1⟩ a
    match a with
    | 0 => show j ≤ (x 0).val ∧ (x 0).val < j + 1; omega
    | 1 => show h ≤ (x 1).val ∧ (x 1).val < h + 1; omega
    | 2 => show 0 ≤ (x 2).val ∧ (x 2).val < 0 + 64; omega
    | 3 => show 0 ≤ (x 3).val ∧ (x 3).val < 0 + 128; omega

theorem mem_outSeg (r : Rect S4096x128) {n : ℕ} {off : Fin 2 → ℕ} (inb : ∀ a, off a + S64x128.size a ≤ S4096x128.size a) (ho : off = ![n, 0])
    (hr : r = Rect.unit (s := S4096x128) off S64x128.size inb) (x : S4096x128.Idx) : x ∈ r.set ↔ n ≤ (x 0).val ∧ (x 0).val < n + 64 := by
  subst hr ho
  refine Rect.mem_set_unit.trans (Fin.forall_fin_two.trans ?_)
  show ((n ≤ (x 0).val ∧ (x 0).val < n + 64) ∧ (0 ≤ (x 1).val ∧ (x 1).val < 0 + 128)) ↔ _
  have h1 : (x 1).val < 128 := (x 1).isLt
  omega

/-- The task's rows of either result. -/
def tileSet (L : grid0.Coords) : Finset S4096x128.Idx := Finset.univ.filter fun x => base L ≤ (x 0).val ∧ (x 0).val < base L + 128

theorem off_lo : k0_off2 L 0#32 = ![base L + 64 * 0, 0] := k0_off2_eq L 0
theorem off_hi : k0_off2 L 64#32 = ![base L + 64 * 1, 0] := k0_off2_eq L 1

theorem ids_split (f : Buf (Elt F) ((thr d L).loc cc0_scratch0)) :
    ((thr d L).loc cc0_scratch0 ↦{fullShare} f : sProp 𝕄)
      = iprop(own d L (line idsV ![0, 0] inb_S2x128_S1x128_0_0) fullShare f ∗ own d L (line idsV ![1, 0] inb_S2x128_S1x128_1_0) fullShare f) := by
  refine pts_two (ℓ := (thr d L).loc cc0_scratch0) (fun x : S2x128.Idx => ?_) (fun x : S2x128.Idx => ?_) fullShare f <;>
    rw [mem_line_ids _ 0 rfl x, mem_line_ids _ 1 rfl x]
  · have h : (x 0).val < 2 := (x 0).isLt
    refine iff_of_true (Finset.mem_univ _) ?_; omega
  · omega

theorem cid_split (f : Buf (Elt F) ((thr d L).loc cc0_scratch1)) :
    ((thr d L).loc cc0_scratch1 ↦{fullShare} f : sProp 𝕄)
      = iprop(own d L (line cidV ![0, 0] inb_S2x128_S1x128_0_0) fullShare f ∗ own d L (line cidV ![1, 0] inb_S2x128_S1x128_1_0) fullShare f) := by
  refine pts_two (ℓ := (thr d L).loc cc0_scratch1) (fun x : S2x128.Idx => ?_) (fun x : S2x128.Idx => ?_) fullShare f <;>
    rw [mem_line_cid _ 0 rfl x, mem_line_cid _ 1 rfl x]
  · have h : (x 0).val < 2 := (x 0).isLt
    refine iff_of_true (Finset.mem_univ _) ?_; omega
  · omega

theorem line_split {off off0 off1 : Fin 2 → ℕ} (inb : ∀ a, off a + S1x128.size a ≤ S2x128.size a) (inb0 : ∀ a, off0 a + S1x64.size a ≤ S2x128.size a)
    (inb1 : ∀ a, off1 a + S1x64.size a ≤ S2x128.size a) (j : ℕ) (ho : off = ![j, 0]) (ho0 : off0 = ![j, 64 * 0]) (ho1 : off1 = ![j, 64 * 1])
    (f : Buf (Elt F) ((thr d L).loc cc0_scratch1)) :
    (own d L (line cidV off inb) fullShare f : sProp 𝕄) = iprop(own d L (half off0 inb0) fullShare f ∗ own d L (half off1 inb1) fullShare f) := by
  refine pts_two (ℓ := (thr d L).loc cc0_scratch1) (fun x : S2x128.Idx => ?_) (fun x : S2x128.Idx => ?_) fullShare f
  · rw [mem_line_cid inb j ho x, mem_half inb0 j 0 ho0 x, mem_half inb1 j 1 ho1 x]
    have h : (x 1).val < 128 := (x 1).isLt
    omega
  · rw [mem_half inb0 j 0 ho0 x, mem_half inb1 j 1 ho1 x]
    omega

theorem row_split (f : Buf (Elt F) ((thr d L).loc cc0_scratch2)) :
    ((thr d L).loc cc0_scratch2 ↦{fullShare} f : sProp 𝕄)
      = iprop((own d L (block ![0, 0, 0, 0] inb_S2x2x64x128_S1x1x64x128_0_0_0_0) fullShare f
            ∗ own d L (block ![0, 1, 0, 0] inb_S2x2x64x128_S1x1x64x128_0_1_0_0) fullShare f)
          ∗ own d L (block ![1, 0, 0, 0] inb_S2x2x64x128_S1x1x64x128_1_0_0_0) fullShare f
          ∗ own d L (block ![1, 1, 0, 0] inb_S2x2x64x128_S1x1x64x128_1_1_0_0) fullShare f) := by
  have e (j : ℕ) {o o' : Fin 4 → ℕ} (i i') (ho : o = ![j, 0, 0, 0]) (ho' : o' = ![j, 1, 0, 0]) :
      ((thr d L).loc cc0_scratch2 ↦[Finset.univ.filter fun x : S2x2x64x128.Idx => (x 0).val = j]{fullShare} f : sProp 𝕄)
        = iprop(own d L (block o i) fullShare f ∗ own d L (block o' i') fullShare f) := by
    refine pts_two (ℓ := (thr d L).loc cc0_scratch2) (fun x : S2x2x64x128.Idx => ?_) (fun x : S2x2x64x128.Idx => ?_) fullShare f <;>
      rw [mem_block i j 0 ho x, mem_block i' j 1 ho' x]
    · have h : (x 1).val < 2 := (x 1).isLt
      refine Finset.mem_filter.trans ?_
      have := Finset.mem_univ x
      simp only [this, true_and]
      omega
    · omega
  rw [← e 0 _ _ rfl rfl, ← e 1 _ _ rfl rfl]
  refine pts_two (ℓ := (thr d L).loc cc0_scratch2) (fun x : S2x2x64x128.Idx => ?_) (fun x : S2x2x64x128.Idx => ?_) fullShare f
  · have h : (x 0).val < 2 := (x 0).isLt
    refine iff_of_true (Finset.mem_univ _) ?_
    simp only [Finset.mem_filter, Finset.mem_univ, true_and]
    omega
  · simp only [Finset.mem_filter, Finset.mem_univ, true_and]
    omega

theorem mem_lo (x : S4096x128.Idx) :
    x ∈ (Rect.unit (s := S4096x128) (k0_off2 L 0#32) S64x128.size (k0_off2_inb L 0)).set ↔ base L + 64 * 0 ≤ (x 0).val ∧ (x 0).val < base L + 64 * 0 + 64 :=
  mem_outSeg _ (k0_off2_inb L 0) (off_lo L) rfl x
theorem mem_hi (x : S4096x128.Idx) :
    x ∈ (Rect.unit (s := S4096x128) (k0_off2 L 64#32) S64x128.size (k0_off2_inb L 1)).set ↔ base L + 64 * 1 ≤ (x 0).val ∧ (x 0).val < base L + 64 * 1 + 64 :=
  mem_outSeg _ (k0_off2_inb L 1) (off_hi L) rfl x
theorem mem_tileSet (x : S4096x128.Idx) : x ∈ tileSet L ↔ base L ≤ (x 0).val ∧ (x 0).val < base L + 128 :=
  Finset.mem_filter.trans (and_iff_right (Finset.mem_univ x))

theorem out_split_pos (f : Buf (Elt F) (posLoc d)) :
    (posLoc d ↦[tileSet L]{fullShare} f : sProp 𝕄)
      = iprop(own d L (outSeg posV (k0_off2 L 0#32) (k0_off2_inb L 0)) fullShare f ∗ own d L (outSeg posV (k0_off2 L 64#32) (k0_off2_inb L 1)) fullShare f) := by
  refine pts_two (ℓ := posLoc d) (fun x : S4096x128.Idx => ?_) (fun x : S4096x128.Idx => ?_) fullShare f <;>
    rw [set_part (main_v0_0_scv : Ref sig .scVector), set_part (main_v0_0_scv : Ref sig .scVector), mem_lo, mem_hi]
  · rw [mem_tileSet]; omega
  · omega

theorem out_split_oth (f : Buf (Elt F) (othLoc d)) :
    (othLoc d ↦[tileSet L]{fullShare} f : sProp 𝕄)
      = iprop(own d L (outSeg othV (k0_off2 L 0#32) (k0_off2_inb L 0)) fullShare f ∗ own d L (outSeg othV (k0_off2 L 64#32) (k0_off2_inb L 1)) fullShare f) := by
  refine pts_two (ℓ := othLoc d) (fun x : S4096x128.Idx => ?_) (fun x : S4096x128.Idx => ?_) fullShare f <;>
    rw [set_part (main_v0_1_scv : Ref sig .scVector), set_part (main_v0_1_scv : Ref sig .scVector), mem_lo, mem_hi]
  · rw [mem_tileSet]; omega
  · omega

end Parts

/-! ## The whole inputs, and the lists' runs -/

section Inputs

variable (d : Dev nD) (L : grid0.Coords)

theorem tab_whole (q : PosShare TreeShare) (f : Buf (Elt F) (tabLoc d)) : (tabLoc d ↦{q} f : sProp 𝕄) = own d L tabAll q f := by
  have e : (tabAll).view.set = Finset.univ := by
    rw [set_part (main_arg1_scv : Ref sig .scVector)]
    refine Finset.eq_univ_of_forall fun x : S1000000.Idx => Rect.mem_set_unit.mpr fun a => ?_
    obtain rfl : a = (0 : Fin 1) := Fin.fin_one_eq_zero a
    have h : (x 0).val < 1000000 := (x 0).isLt
    show 0 ≤ (x 0).val ∧ (x 0).val < 0 + 1000000
    omega
  unfold own
  rw [e]

theorem cen_whole (q : PosShare TreeShare) (f : Buf (Elt F) (cenLoc d)) : (cenLoc d ↦{q} f : sProp 𝕄) = own d L cenAll q f := by
  have e : (cenAll).view.set = Finset.univ := by
    rw [set_part (main_arg0_scv : Ref sig .scVector)]
    refine Finset.eq_univ_of_forall fun x : S65536x128.Idx => Rect.mem_set_unit.mpr (Fin.forall_fin_two.mpr ?_)
    have h0 : (x 0).val < 65536 := (x 0).isLt
    have h1 : (x 1).val < 128 := (x 1).isLt
    show (0 ≤ (x 0).val ∧ (x 0).val < 0 + 65536) ∧ 0 ≤ (x 1).val ∧ (x 1).val < 0 + 128
    omega
  unfold own
  rw [e]

end Inputs

/-! ## The body -/

/-- What a task, a SparseCore and the call hold: a share of the four inputs and rows of the two results. -/
abbrev Held (d : Dev nD) (q : PosShare TreeShare) (I : Finset S4096x128.Idx) (f : Buf (Elt F) (posLoc d)) (g : Buf (Elt F) (othLoc d)) : sProp 𝕄 :=
  iprop((cenLoc d ↦{q} m (cenLoc d)) ∗ (tabLoc d ↦{q} m (tabLoc d)) ∗ (docLoc d ↦{q} m (docLoc d)) ∗ (negLoc d ↦{q} m (negLoc d))
    ∗ (posLoc d ↦[I]{fullShare} f) ∗ othLoc d ↦[I]{fullShare} g)

section Body

variable [FloatOps F] (d : Dev nD) (L : grid0.Coords)

/-- The twelve semaphores, in the order the body's arguments name them. -/
abbrev sems : Fin 12 → DmaSem sig :=
  ![cc0_scratch3.sem, cc0_scratch4.sem, cc0_scratch5.sem, cc0_scratch6.sem, cc0_scratch7.sem, cc0_scratch8.sem,
    cc0_scratch9.sem, cc0_scratch10.sem, cc0_scratch11.sem, cc0_scratch12.sem, cc0_scratch13.sem, cc0_scratch14.sem]

theorem ownSems0_V :
    (ownSems0 (thr d L) : sProp 𝕄)
      = iprop((semVal (thr d L, .dma cc0_scratch3.sem) 0 ∗ semVal (thr d L, .dma cc0_scratch4.sem) 0 ∗ semVal (thr d L, .dma cc0_scratch5.sem) 0
          ∗ semVal (thr d L, .dma cc0_scratch6.sem) 0 ∗ semVal (thr d L, .dma cc0_scratch7.sem) 0 ∗ semVal (thr d L, .dma cc0_scratch8.sem) 0
          ∗ semVal (thr d L, .dma cc0_scratch9.sem) 0 ∗ semVal (thr d L, .dma cc0_scratch10.sem) 0 ∗ semVal (thr d L, .dma cc0_scratch11.sem) 0
          ∗ semVal (thr d L, .dma cc0_scratch12.sem) 0 ∗ semVal (thr d L, .dma cc0_scratch13.sem) 0 ∗ semVal (thr d L, .dma cc0_scratch14.sem) 0)
          ∗ bigSep (ownCells (thr d L) \ Finset.univ.image fun i => ((thr d L, SemLoc.dma (sems i)) : GSem nD τ sig)) fun g => semVal g 0) := by
  refine (sems_twelve (S := ownCells (thr d L)) (thr d L) sems (by decide) fun i => mem_ownCells.mpr ⟨rfl, ?_⟩)
  show (SemLoc.dma (sems i) : SemLoc sig).isScoped .scVector = true
  revert i; decide

/-- The three scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (thr d L).2).erase ((thr d L).2.devRef cc0_scratch0)).erase ((thr d L).2.devRef cc0_scratch1)).erase
              ((thr d L).2.devRef cc0_scratch2)) fun b => iprop(∃ f, ((d, b) : Loc nD τ sig) ↦{fullShare} f)) := by
  have hown (b : Ref sig .scVector) (hb : ((thr d L).2.devRef b).owner = .proc (thr d L).2) : (thr d L).2.devRef b ∈ ownRefs (τ := τ) (thr d L).2 :=
    SparseCore.Cfg.mem_ownRefs_of_owner hb
  have hne {b b' : Ref sig .scVector} (h : b ≠ b') : (thr d L).2.devRef b ≠ (thr d L).2.devRef b' := fun e => h (Proc.devRef_injective _ e)
  unfold SparseCore.Cfg.ownBufs
  refine (SparseCore.bigSep_erase' (hown cc0_scratch0 rfl)).trans ?_
  rw [SparseCore.bigSep_erase' (Finset.mem_erase.mpr ⟨hne (by decide), hown cc0_scratch1 rfl⟩),
    SparseCore.bigSep_erase' (Finset.mem_erase.mpr ⟨hne (by decide), Finset.mem_erase.mpr ⟨hne (by decide), hown cc0_scratch2 rfl⟩⟩)]

end Body

end Cert.Proof.OfKernelIdeal

end
-- ==== Proof.KernelIdealBody.lean ====
/-
  The task's body: its commands one after the other. Four kinds of transfer are started, each kind by one rule below, and
  each is waited for by the rule of `Steps`.
-/
module

public import proofs.«01_k».proof.Proof.KernelIdealTask

@[expose] public section

noncomputable section

namespace Cert.Proof.OfKernelIdeal

open Cert.KernelIdeal Cert.KernelIdeal.Gen
open Cert.Proof.Steps Cert.Proof.Reads

open Idealize.ShloMosaic Idealize.ShloMosaic.ValueIdx Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "cenV" => (Memref.whole Cert.KernelIdeal.main_arg0_scv : Memref Cert.KernelIdeal.sig Kind.scVector Space.hbm Cert.KernelIdeal.S65536x128 EltTy.f32)
local notation "tabV" => (Memref.whole Cert.KernelIdeal.main_arg1_scv : Memref Cert.KernelIdeal.sig Kind.scVector Space.hbm Cert.KernelIdeal.S1000000 EltTy.i32)
local notation "docV" => (Memref.whole Cert.KernelIdeal.main_arg2_scv : Memref Cert.KernelIdeal.sig Kind.scVector Space.hbm Cert.KernelIdeal.S4096 EltTy.i32)
local notation "negV" => (Memref.whole Cert.KernelIdeal.main_arg3_scv : Memref Cert.KernelIdeal.sig Kind.scVector Space.hbm Cert.KernelIdeal.S4096 EltTy.i32)
local notation "posV" => (Memref.whole Cert.KernelIdeal.main_v0_0_scv : Memref Cert.KernelIdeal.sig Kind.scVector Space.hbm Cert.KernelIdeal.S4096x128 EltTy.f32)
local notation "othV" => (Memref.whole Cert.KernelIdeal.main_v0_1_scv : Memref Cert.KernelIdeal.sig Kind.scVector Space.hbm Cert.KernelIdeal.S4096x128 EltTy.f32)
local notation "idsV" => (Memref.whole Cert.KernelIdeal.cc0_scratch0 : Memref Cert.KernelIdeal.sig Kind.scVector Space.vmem Cert.KernelIdeal.S2x128 EltTy.i32)
local notation "cidV" => (Memref.whole Cert.KernelIdeal.cc0_scratch1 : Memref Cert.KernelIdeal.sig Kind.scVector Space.vmem Cert.KernelIdeal.S2x128 EltTy.i32)
local notation "rowV" => (Memref.whole Cert.KernelIdeal.cc0_scratch2 : Memref Cert.KernelIdeal.sig Kind.scVector Space.vmem Cert.KernelIdeal.S2x2x64x128 EltTy.f32)

section Body

variable [FloatOps F] (d : Dev nD) (L : grid0.Coords) {Q : PUnit → sProp (MT nD τ sig (HIx 1) (Elt F) ℕ UU ℕ)}

/-- A transfer in flight on one of the task's semaphores. -/
abbrev Fly (sem : DmaSem sig) (n : ℕ) (R : sProp 𝕄) : sProp 𝕄 := Transfers.Flight countersEmb (thr d L) (.dma sem) (default : HIx 1) n R

/-- One command of the task's. -/
abbrev Does (p : Prog (TpuEff nD τ sig (Elt F) Λ₀ (thr d L).2) PUnit) (Q : PUnit → sProp 𝕄) : sProp 𝕄 :=
  wp frame (wpE (defs₀ (F := F)) 𝒱₀ (thr d L) none) Set.univ p Q

theorem pos_line : 0 < S128.numel := by decide
theorem pos_block : 0 < S64x128.numel := by decide

theorem start_ids (M : Memref sig .scVector .hbm S4096 .i32) (f : Buf (Elt F) (M.view.loc (thr d L))) (j : ℕ)
    (hf : ∀ i, M.view.read (Elt F) f i = list m d j i) {off : Fin 2 → ℕ} (inb : ∀ a, off a + S1x128.size a ≤ S2x128.size a) (ho : off = ![j, 0])
    {sem : DmaSem sig} {hsrc hdst hsem} {q : PosShare TreeShare} {fd : Buf (Elt F) ((thr d L).loc cc0_scratch0)} :
    iprop(own d L (listSeg M L) q f ∗ own d L (line idsV off inb) fullShare fd ∗ semVal (thr d L, .dma sem) 0)
      ⊢ iprop((Fly d L sem (line idsV off inb).view.dmaCredit
              iprop(own d L (line idsV off inb) fullShare (idsG m d L) ∗ own d L (listSeg M L) q f) -∗ Q ⟨⟩)
          -∗ Does d L (Prog.lift (.enqueueDma (listSeg M L) (.here (line idsV off inb)) (.dma sem) hsrc hdst hsem)) Q) :=
  copy_start (src := listSeg M L) (dst := line idsV off inb) countersEmb 𝒱₀ (thr d L) none default pos_line (idsG m d L) (ids_read m d L M f j hf inb ho)

theorem start_cid (hpre : PreOK m) {off : Fin 2 → ℕ} (inb : ∀ a, off a + S1x128.size a ≤ S2x128.size a) (j : ℕ) (ho : off = ![j, 0])
    {hn : S128.numel = S128.size gathers_S1000000_S128.axis'} {hp hsrc he hsp hr} {sem : DmaSem sig} {q : PosShare TreeShare}
    {fd : Buf (Elt F) ((thr d L).loc cc0_scratch1)} :
    iprop(own d L tabAll q (m (tabLoc d)) ∗ own d L (line cidV off inb) fullShare fd ∗ own d L (line idsV off inb) fullShare (idsG m d L)
        ∗ semVal (thr d L, .dma sem) 0)
      ⊢ iprop((Fly d L sem (line cidV off inb).view.dmaCredit
              iprop(own d L (line cidV off inb) fullShare (cidG m d L) ∗ own d L tabAll q (m (tabLoc d)) ∗ own d L (line idsV off inb) fullShare (idsG m d L))
            -∗ Q ⟨⟩)
          -∗ Does d L (SparseCore.enqueueIndirectGather hp tabAll (line cidV off inb) gathers_S1000000_S128 (line idsV off inb) hn sem hsrc he hsp hr) Q) :=
  gather_start (src := tabAll) (dst := line cidV off inb) (offs := line idsV off inb) countersEmb 𝒱₀ (thr d L) none default
    (SparseCore.sum_rowCredit_eq_dmaCredit _ _ fun _ => rfl) pos_line (ids_inb m d L hpre inb j ho) (cidG m d L) (cid_read m d L inb j ho hn _)

theorem start_row (hpre : PreOK m) {off : Fin 2 → ℕ} (inb : ∀ a, off a + S1x64.size a ≤ S2x128.size a) {off' : Fin 4 → ℕ}
    (inb' : ∀ a, off' a + S1x1x64x128.size a ≤ S2x2x64x128.size a) (j h : ℕ) (ho : off = ![j, 64 * h]) (ho' : off' = ![j, h, 0, 0])
    {hn : S64.numel = S64x128.size gathers_S65536x128_S64x128.axis'} {hp hsrc he hsp hr} {sem : DmaSem sig} {q : PosShare TreeShare}
    {fd : Buf (Elt F) ((thr d L).loc cc0_scratch2)} :
    iprop(own d L cenAll q (m (cenLoc d)) ∗ own d L (block off' inb') fullShare fd ∗ own d L (half off inb) fullShare (cidG m d L)
        ∗ semVal (thr d L, .dma sem) 0)
      ⊢ iprop((Fly d L sem (block off' inb').view.dmaCredit
              iprop(own d L (block off' inb') fullShare (rowG m d L) ∗ own d L cenAll q (m (cenLoc d)) ∗ own d L (half off inb) fullShare (cidG m d L))
            -∗ Q ⟨⟩)
          -∗ Does d L (SparseCore.enqueueIndirectGather hp cenAll (block off' inb') gathers_S65536x128_S64x128 (half off inb) hn sem hsrc he hsp hr) Q) :=
  gather_start (src := cenAll) (dst := block off' inb') (offs := half off inb) countersEmb 𝒱₀ (thr d L) none default
    (SparseCore.sum_rowCredit_eq_dmaCredit _ _ fun _ => rfl) pos_block (cid_inb m d L hpre inb j h ho) (rowG m d L) (row_read m d L inb inb' j h ho ho' hn _)

theorem start_out (M : Memref sig .scVector .hbm S4096x128 .f32) (f : Buf (Elt F) (M.view.loc (thr d L))) (j h : ℕ)
    (hf : ∀ i, M.view.read (Elt F) f i = result m d j i) {off : Fin 2 → ℕ} (inb : ∀ a, off a + S64x128.size a ≤ S4096x128.size a)
    (ho : off = ![base L + 64 * h, 0]) {off' : Fin 4 → ℕ} (inb' : ∀ a, off' a + S1x1x64x128.size a ≤ S2x2x64x128.size a) (ho' : off' = ![j, h, 0, 0])
    {sem : DmaSem sig} {hsrc hdst hsem} {fd : Buf (Elt F) (M.view.loc (thr d L))} :
    iprop(own d L (block off' inb') fullShare (rowG m d L) ∗ own d L (outSeg M off inb) fullShare fd ∗ semVal (thr d L, .dma sem) 0)
      ⊢ iprop((Fly d L sem (outSeg M off inb).view.dmaCredit
              iprop(own d L (outSeg M off inb) fullShare f ∗ own d L (block off' inb') fullShare (rowG m d L)) -∗ Q ⟨⟩)
          -∗ Does d L (Prog.lift (.enqueueDma (block off' inb') (.here (outSeg M off inb)) (.dma sem) hsrc hdst hsem)) Q) :=
  copy_start (src := block off' inb') (dst := outSeg M off inb) countersEmb 𝒱₀ (thr d L) none default pos_block f (out_read m d L M f j h hf inb ho inb' ho')

theorem doc_run (q : PosShare TreeShare) (f : Buf (Elt F) (docLoc d)) :
    (docLoc d ↦{q} f : sProp 𝕄) = iprop(own d L (listSeg docV L) q f ∗ docLoc d ↦[Finset.univ \ (listSeg docV L).view.set]{q} f) :=
  have h := pointsTo_split_subset (Ix := HIx 1) (Name := ℕ) (U := UU) (Lvl := ℕ) (ℓ := docLoc d) (q := q) (f := f) (Finset.subset_univ (listSeg docV L).view.set)
  Entails.antisymm h.1 h.2

theorem neg_run (q : PosShare TreeShare) (f : Buf (Elt F) (negLoc d)) :
    (negLoc d ↦{q} f : sProp 𝕄) = iprop(own d L (listSeg negV L) q f ∗ negLoc d ↦[Finset.univ \ (listSeg negV L).view.set]{q} f) :=
  have h := pointsTo_split_subset (Ix := HIx 1) (Name := ℕ) (U := UU) (Lvl := ℕ) (ℓ := negLoc d) (q := q) (f := f) (Finset.subset_univ (listSeg negV L).view.set)
  Entails.antisymm h.1 h.2

theorem tab_parts (q : PosShare TreeShare) (f : Buf (Elt F) (tabLoc d)) :
    (tabLoc d ↦{q} f : sProp 𝕄) = iprop(own d L tabAll q.left f ∗ own d L tabAll q.right f) :=
  (tab_whole d L q f).trans (pts_halves _ q _)

theorem cen_parts (q : PosShare TreeShare) (f : Buf (Elt F) (cenLoc d)) :
    (cenLoc d ↦{q} f : sProp 𝕄)
      = iprop((own d L cenAll q.left.left f ∗ own d L cenAll q.left.right f) ∗ own d L cenAll q.right.left f ∗ own d L cenAll q.right.right f) :=
  (cen_whole d L q f).trans ((pts_halves _ q _).trans (congrArg₂ (fun a b => iprop(a ∗ b)) (pts_halves _ q.left _) (pts_halves _ q.right _)))

theorem tile_body (hF : (K (F := F)).Facts) (hpre : PreOK m) (q : PosShare TreeShare) (O : CellTallies nD τ sig (HIx 1)) (W : Waits sig (HIx 1))
    (hO : ∀ g, O g none = 0) :
    iprop(levAts (K (F := F)).L (K (F := F)).lev ∗ emp ∗ Held m d q (tileSet L) (m (posLoc d)) (m (othLoc d))
        ∗ scopedBufs (thr d L) ∗ scopedSems0 (thr d L) ∗ owes (thr d L) O W)
      ⊢ wp frame (wpE (defs₀ (F := F)) 𝒱₀ (thr d L) none) Set.univ
          (cc0__body L cenV (Memref.isWhole_whole _) tabV (Memref.isWhole_whole _) docV (Memref.isWhole_whole _) negV (Memref.isWhole_whole _)
            posV (Memref.isWhole_whole _) othV (Memref.isWhole_whole _) idsV (Memref.isWhole_whole _) cidV (Memref.isWhole_whole _)
            rowV (Memref.isWhole_whole _) cc0_scratch3 cc0_scratch4 cc0_scratch5 cc0_scratch6 cc0_scratch7 cc0_scratch8 cc0_scratch9
            cc0_scratch10 cc0_scratch11 cc0_scratch12 cc0_scratch13 cc0_scratch14)
          fun _ => iprop(Held m d q (tileSet L) (result m d 0) (result m d 1) ∗ scopedBufs (thr d L) ∗ scopedSems0 (thr d L)
            ∗ ∃ W', ⌜∀ p ∈ W', p ∈ W ∨ p.2 = none⌝ ∗ owes (thr d L) O W') := by
  simp only [cc0__body_eq_skeleton, cc0__body_skel, k0_part1_eq_skeleton, k0_part1_skel, k0_part2_eq_skeleton, k0_part2_skel, k0_part3_eq_skeleton,
    k0_part3_skel, k0_part4_eq_skeleton, k0_part4_skel, k0_part5_eq_skeleton, k0_part5_skel, wp_bind, wp_pure]
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V]
  unfold Held
  rw [cen_parts d L, tab_parts d L, doc_run d L, neg_run d L, out_split_pos d L, out_split_oth d L, out_split_pos d L, out_split_oth d L]
  iintro ⟨#Hlv, -, ⟨⟨⟨E00, E01⟩, E10, E11⟩, ⟨T0, T1⟩, ⟨D0, Dr⟩, ⟨D1, Nr⟩, ⟨O00, O01⟩, O10, O11⟩, ⟨⟨%fi, I⟩, ⟨%fc, C⟩, ⟨%fr, R⟩, Hbufs⟩,
    ⟨⟨S0, S1, S2, S3, S4, S5, S6, S7, S8, S9, S10, S11⟩, Hsems⟩, HO⟩
  ihave #Hmw := (show levAts (K (F := F)).L (K (F := F)).lev ⊢ Transfers.MayWaits (thr d L) (default : HIx 1) O from
    (K (F := F)).mayWaits_none (thr := thr d L) hO) $$ Hlv
  icases (Entails.of_eq (ids_split d L fi)) $$ I with ⟨I0, I1⟩
  icases (Entails.of_eq (cid_split d L fc)) $$ C with ⟨C0, C1⟩
  icases (Entails.of_eq (row_split d L fr)) $$ R with ⟨⟨R00, R01⟩, R10, R11⟩
  ihave HO := (show owes (thr d L) O W ⊢ (Owing (thr d L) O W (default : HIx 1) : sProp 𝕄) by
    unfold Owing
    iintro H
    iexists W; isplitr
    · ipureintro; exact fun p hp => .inl hp
    · iexact H) $$ HO
  iapply (start_ids m d L docV (m (docLoc d)) 0 (fun _ => rfl) inb_S2x128_S1x128_0_0 rfl) $$ [D0 I0 S0]
  · isplitl [D0]; · iexact D0
    isplitl [I0]; · iexact I0
    iexact S0
  iintro F0
  iapply (start_ids m d L negV (m (negLoc d)) 1 (fun _ => rfl) inb_S2x128_S1x128_1_0 rfl) $$ [D1 I1 S1]
  · isplitl [D1]; · iexact D1
    isplitl [I1]; · iexact I1
    iexact S1
  iintro F1
  iapply (wait_done countersEmb 𝒱₀ (thr d L) none (default : HIx 1) rfl) $$ [F0 HO]
  · isplitl [F0]; · iexact F0
    isplitl [HO]; · iexact HO
    iexact Hmw
  iintro ⟨⟨I0, D0⟩, S0, HO⟩
  iapply (start_cid m d L hpre inb_S2x128_S1x128_0_0 0 rfl) $$ [T0 C0 I0 S2]
  · isplitl [T0]; · iexact T0
    isplitl [C0]; · iexact C0
    isplitl [I0]; · iexact I0
    iexact S2
  iintro F2
  iapply (wait_done countersEmb 𝒱₀ (thr d L) none (default : HIx 1) rfl) $$ [F1 HO]
  · isplitl [F1]; · iexact F1
    isplitl [HO]; · iexact HO
    iexact Hmw
  iintro ⟨⟨I1, D1⟩, S1, HO⟩
  imodintro
  iapply (start_cid m d L hpre inb_S2x128_S1x128_1_0 1 rfl) $$ [T1 C1 I1 S3]
  · isplitl [T1]; · iexact T1
    isplitl [C1]; · iexact C1
    isplitl [I1]; · iexact I1
    iexact S3
  iintro F3
  iapply (wait_done countersEmb 𝒱₀ (thr d L) none (default : HIx 1) rfl) $$ [F2 HO]
  · isplitl [F2]; · iexact F2
    isplitl [HO]; · iexact HO
    iexact Hmw
  iintro ⟨⟨C0, T0, I0⟩, S2, HO⟩
  icases (Entails.of_eq (line_split d L inb_S2x128_S1x128_0_0 inb_S2x128_S1x64_0_0 inb_S2x128_S1x64_0_64 0 rfl rfl rfl _)) $$ C0 with ⟨C00, C01⟩
  iapply (start_row m d L hpre inb_S2x128_S1x64_0_0 inb_S2x2x64x128_S1x1x64x128_0_0_0_0 0 0 rfl rfl) $$ [E00 R00 C00 S4]
  · isplitl [E00]; · iexact E00
    isplitl [R00]; · iexact R00
    isplitl [C00]; · iexact C00
    iexact S4
  iintro F4
  iapply (start_row m d L hpre inb_S2x128_S1x64_0_64 inb_S2x2x64x128_S1x1x64x128_0_1_0_0 0 1 rfl rfl) $$ [E01 R01 C01 S5]
  · isplitl [E01]; · iexact E01
    isplitl [R01]; · iexact R01
    isplitl [C01]; · iexact C01
    iexact S5
  iintro F5
  iapply (wait_done countersEmb 𝒱₀ (thr d L) none (default : HIx 1) rfl) $$ [F3 HO]
  · isplitl [F3]; · iexact F3
    isplitl [HO]; · iexact HO
    iexact Hmw
  iintro ⟨⟨C1, T1, I1⟩, S3, HO⟩
  imodintro
  icases (Entails.of_eq (line_split d L inb_S2x128_S1x128_1_0 inb_S2x128_S1x64_1_0 inb_S2x128_S1x64_1_64 1 rfl rfl rfl _)) $$ C1 with ⟨C10, C11⟩
  iapply (start_row m d L hpre inb_S2x128_S1x64_1_0 inb_S2x2x64x128_S1x1x64x128_1_0_0_0 1 0 rfl rfl) $$ [E10 R10 C10 S6]
  · isplitl [E10]; · iexact E10
    isplitl [R10]; · iexact R10
    isplitl [C10]; · iexact C10
    iexact S6
  iintro F6
  iapply (start_row m d L hpre inb_S2x128_S1x64_1_64 inb_S2x2x64x128_S1x1x64x128_1_1_0_0 1 1 rfl rfl) $$ [E11 R11 C11 S7]
  · isplitl [E11]; · iexact E11
    isplitl [R11]; · iexact R11
    isplitl [C11]; · iexact C11
    iexact S7
  iintro F7
  iapply (wait_done countersEmb 𝒱₀ (thr d L) none (default : HIx 1) rfl) $$ [F4 HO]
  · isplitl [F4]; · iexact F4
    isplitl [HO]; · iexact HO
    iexact Hmw
  iintro ⟨⟨R00, E00, C00⟩, S4, HO⟩
  iapply (start_out m d L posV (result m d 0) 0 0 (fun _ => rfl) (k0_off2_inb L 0) (off_lo L) inb_S2x2x64x128_S1x1x64x128_0_0_0_0 rfl) $$ [R00 O00 S8]
  · isplitl [R00]; · iexact R00
    isplitl [O00]; · iexact O00
    iexact S8
  iintro F8
  imodintro
  iapply (wait_done countersEmb 𝒱₀ (thr d L) none (default : HIx 1) rfl) $$ [F5 HO]
  · isplitl [F5]; · iexact F5
    isplitl [HO]; · iexact HO
    iexact Hmw
  iintro ⟨⟨R01, E01, C01⟩, S5, HO⟩
  iapply (start_out m d L posV (result m d 0) 0 1 (fun _ => rfl) (k0_off2_inb L 1) (off_hi L) inb_S2x2x64x128_S1x1x64x128_0_1_0_0 rfl) $$ [R01 O01 S9]
  · isplitl [R01]; · iexact R01
    isplitl [O01]; · iexact O01
    iexact S9
  iintro F9
  iapply (wait_done countersEmb 𝒱₀ (thr d L) none (default : HIx 1) rfl) $$ [F6 HO]
  · isplitl [F6]; · iexact F6
    isplitl [HO]; · iexact HO
    iexact Hmw
  iintro ⟨⟨R10, E10, C10⟩, S6, HO⟩
  iapply (start_out m d L othV (result m d 1) 1 0 (fun _ => rfl) (k0_off2_inb L 0) (off_lo L) inb_S2x2x64x128_S1x1x64x128_1_0_0_0 rfl) $$ [R10 O10 S10]
  · isplitl [R10]; · iexact R10
    isplitl [O10]; · iexact O10
    iexact S10
  iintro F10
  imodintro
  iapply (wait_done countersEmb 𝒱₀ (thr d L) none (default : HIx 1) rfl) $$ [F7 HO]
  · isplitl [F7]; · iexact F7
    isplitl [HO]; · iexact HO
    iexact Hmw
  iintro ⟨⟨R11, E11, C11⟩, S7, HO⟩
  iapply (start_out m d L othV (result m d 1) 1 1 (fun _ => rfl) (k0_off2_inb L 1) (off_hi L) inb_S2x2x64x128_S1x1x64x128_1_1_0_0 rfl) $$ [R11 O11 S11]
  · isplitl [R11]; · iexact R11
    isplitl [O11]; · iexact O11
    iexact S11
  iintro F11
  iapply (wait_done countersEmb 𝒱₀ (thr d L) none (default : HIx 1) rfl) $$ [F8 HO]
  · isplitl [F8]; · iexact F8
    isplitl [HO]; · iexact HO
    iexact Hmw
  iintro ⟨⟨O00, R00⟩, S8, HO⟩
  imodintro
  iapply (wait_done countersEmb 𝒱₀ (thr d L) none (default : HIx 1) rfl) $$ [F9 HO]
  · isplitl [F9]; · iexact F9
    isplitl [HO]; · iexact HO
    iexact Hmw
  iintro ⟨⟨O01, R01⟩, S9, HO⟩
  iapply (wait_done countersEmb 𝒱₀ (thr d L) none (default : HIx 1) rfl) $$ [F10 HO]
  · isplitl [F10]; · iexact F10
    isplitl [HO]; · iexact HO
    iexact Hmw
  iintro ⟨⟨O10, R10⟩, S10, HO⟩
  iapply (wait_done countersEmb 𝒱₀ (thr d L) none (default : HIx 1) rfl) $$ [F11 HO]
  · isplitl [F11]; · iexact F11
    isplitl [HO]; · iexact HO
    iexact Hmw
  iintro ⟨⟨O11, R11⟩, S11, HO⟩
  imodintro
  isplitl [E00 E01 E10 E11 T0 T1 D0 Dr D1 Nr O00 O01 O10 O11]
  · isplitl [E00 E01 E10 E11]
    · isplitl [E00 E01]
      · isplitl [E00]; · iexact E00
        iexact E01
      isplitl [E10]; · iexact E10
      iexact E11
    isplitl [T0 T1]
    · isplitl [T0]; · iexact T0
      iexact T1
    isplitl [D0 Dr]
    · isplitl [D0]; · iexact D0
      iexact Dr
    isplitl [D1 Nr]
    · isplitl [D1]; · iexact D1
      iexact Nr
    isplitl [O00 O01]
    · isplitl [O00]; · iexact O00
      iexact O01
    isplitl [O10]; · iexact O10
    iexact O11
  isplitl [I0 I1 C00 C01 C10 C11 R00 R01 R10 R11 Hbufs]
  · isplitl [I0 I1]
    · iexists (idsG m d L)
      iapply (Entails.of_eq (ids_split d L (idsG m d L)).symm)
      isplitl [I0]; · iexact I0
      iexact I1
    isplitl [C00 C01 C10 C11]
    · iexists (cidG m d L)
      iapply (Entails.of_eq ((cid_split d L (cidG m d L)).trans (congrArg₂ (fun a b => iprop(a ∗ b))
        (line_split d L inb_S2x128_S1x128_0_0 inb_S2x128_S1x64_0_0 inb_S2x128_S1x64_0_64 0 rfl rfl rfl _)
        (line_split d L inb_S2x128_S1x128_1_0 inb_S2x128_S1x64_1_0 inb_S2x128_S1x64_1_64 1 rfl rfl rfl _))).symm)
      isplitl [C00 C01]
      · isplitl [C00]; · iexact C00
        iexact C01
      isplitl [C10]; · iexact C10
      iexact C11
    isplitl [R00 R01 R10 R11]
    · iexists (rowG m d L)
      iapply (Entails.of_eq (row_split d L (rowG m d L)).symm)
      isplitl [R00 R01]
      · isplitl [R00]; · iexact R00
        iexact R01
      isplitl [R10]; · iexact R10
      iexact R11
    iexact Hbufs
  isplitr [HO]
  · isplitr [Hsems]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    iexact Hsems
  unfold Owing
  iexact HO

end Body

end Cert.Proof.OfKernelIdeal

end
-- ==== Proof.KernelIdealLaunch.lean ====
/-
  The launch: the call's two SparseCores and their sixteen tasks each. The inputs go out as shares, a share to a core and a
  share of that to a task; the results go out by rows, a core's rows and a task's rows. Every contents is named beforehand,
  so splitting and putting together are one equality.
-/
module

public import proofs.«01_k».proof.Proof.KernelIdealBody

@[expose] public section

noncomputable section

namespace Cert.Proof.OfKernelIdeal

open Cert.KernelIdeal Cert.KernelIdeal.Gen
open Cert.Proof.Steps Cert.Proof.Reads

open Idealize.ShloMosaic Idealize.ShloMosaic.ValueIdx Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "cenV" => (Memref.whole Cert.KernelIdeal.main_arg0_scv : Memref Cert.KernelIdeal.sig Kind.scVector Space.hbm Cert.KernelIdeal.S65536x128 EltTy.f32)
local notation "tabV" => (Memref.whole Cert.KernelIdeal.main_arg1_scv : Memref Cert.KernelIdeal.sig Kind.scVector Space.hbm Cert.KernelIdeal.S1000000 EltTy.i32)
local notation "docV" => (Memref.whole Cert.KernelIdeal.main_arg2_scv : Memref Cert.KernelIdeal.sig Kind.scVector Space.hbm Cert.KernelIdeal.S4096 EltTy.i32)
local notation "negV" => (Memref.whole Cert.KernelIdeal.main_arg3_scv : Memref Cert.KernelIdeal.sig Kind.scVector Space.hbm Cert.KernelIdeal.S4096 EltTy.i32)
local notation "posV" => (Memref.whole Cert.KernelIdeal.main_v0_0_scv : Memref Cert.KernelIdeal.sig Kind.scVector Space.hbm Cert.KernelIdeal.S4096x128 EltTy.f32)
local notation "othV" => (Memref.whole Cert.KernelIdeal.main_v0_1_scv : Memref Cert.KernelIdeal.sig Kind.scVector Space.hbm Cert.KernelIdeal.S4096x128 EltTy.f32)
local notation "idsV" => (Memref.whole Cert.KernelIdeal.cc0_scratch0 : Memref Cert.KernelIdeal.sig Kind.scVector Space.vmem Cert.KernelIdeal.S2x128 EltTy.i32)
local notation "cidV" => (Memref.whole Cert.KernelIdeal.cc0_scratch1 : Memref Cert.KernelIdeal.sig Kind.scVector Space.vmem Cert.KernelIdeal.S2x128 EltTy.i32)
local notation "rowV" => (Memref.whole Cert.KernelIdeal.cc0_scratch2 : Memref Cert.KernelIdeal.sig Kind.scVector Space.vmem Cert.KernelIdeal.S2x2x64x128 EltTy.f32)

/-! ## Sharing out -/

/-- The coordinates of task `i` of core `c`. -/
def coords (c : Fin (grid0.bound 0)) (i : Fin (grid0.bound 1)) : grid0.Coords :=
  fun | 0 => c | 1 => i | ⟨_ + 2, h⟩ => absurd h (Nat.not_lt.2 (Nat.le_add_left _ _))

/-- The rows of core `c`'s tasks. -/
def coreSet (c : Fin 2) : Finset S4096x128.Idx := Finset.univ.filter fun x => (x 0).val / 128 % 2 = c.val

theorem mem_coreSet (c : Fin 2) (x : S4096x128.Idx) : x ∈ coreSet c ↔ (x 0).val / 128 % 2 = c.val :=
  Finset.mem_filter.trans (and_iff_right (Finset.mem_univ x))

/-- The rows of task `i` of core `c`. -/
abbrev taskSet (c : Fin 2) (i : Fin 16) : Finset S4096x128.Idx := tileSet (coords c i)

theorem mem_taskSet (c : Fin 2) (i : Fin 16) (x : S4096x128.Idx) :
    x ∈ taskSet c i ↔ 256 * i.val + 128 * c.val ≤ (x 0).val ∧ (x 0).val < 256 * i.val + 128 * c.val + 128 :=
  mem_tileSet (coords c i) x

theorem cores_cover : (Finset.univ : Finset (Fin 2)).biUnion coreSet = Finset.univ := by
  refine Finset.eq_univ_of_forall fun x => Finset.mem_biUnion.mpr ⟨⟨(x 0).val / 128 % 2, by omega⟩, Finset.mem_univ _, ?_⟩
  rw [mem_coreSet]

theorem cores_disjoint : ∀ c ∈ (Finset.univ : Finset (Fin 2)), ∀ c' ∈ (Finset.univ : Finset (Fin 2)), c ≠ c' → Disjoint (coreSet c) (coreSet c') :=
  fun c _ c' _ h => Finset.disjoint_left.mpr fun x hx hx' =>
    h (Fin.ext (((mem_coreSet c x).mp hx).symm.trans ((mem_coreSet c' x).mp hx')))

theorem tasks_cover (c : Fin 2) : (Finset.univ : Finset (Fin 16)).biUnion (taskSet c) = coreSet c := by
  ext x
  have hx : (x 0).val < 4096 := (x 0).isLt
  have hc := c.isLt
  rw [Finset.mem_biUnion, mem_coreSet]
  constructor
  · rintro ⟨i, -, hi⟩
    have := (mem_taskSet c i x).mp hi
    omega
  · intro h
    refine ⟨⟨(x 0).val / 256, by omega⟩, Finset.mem_univ _, (mem_taskSet c _ x).mpr ?_⟩
    show 256 * ((x 0).val / 256) + 128 * c.val ≤ (x 0).val ∧ (x 0).val < 256 * ((x 0).val / 256) + 128 * c.val + 128
    omega

theorem tasks_disjoint (c : Fin 2) :
    ∀ i ∈ (Finset.univ : Finset (Fin 16)), ∀ i' ∈ (Finset.univ : Finset (Fin 16)), i ≠ i' → Disjoint (taskSet c i) (taskSet c i') :=
  fun i _ i' _ h => Finset.disjoint_left.mpr fun x hx hx' => by
    have h1 := (mem_taskSet c i x).mp hx
    have h2 := (mem_taskSet c i' x).mp hx'
    exact h (Fin.ext (by omega))

/-- What is held, shared out `2 ^ n` ways. -/
theorem held_split (d : Dev nD) (n : ℕ) (q : PosShare TreeShare) (I : Finset S4096x128.Idx) (J : Fin (2 ^ n) → Finset S4096x128.Idx)
    (hI : (Finset.univ : Finset (Fin (2 ^ n))).biUnion J = I)
    (hJ : ∀ i ∈ (Finset.univ : Finset (Fin (2 ^ n))), ∀ i' ∈ (Finset.univ : Finset (Fin (2 ^ n))), i ≠ i' → Disjoint (J i) (J i'))
    (f : Buf (Elt F) (posLoc d)) (g : Buf (Elt F) (othLoc d)) :
    (Held m d q I f g : sProp 𝕄) = bigSep Finset.univ fun i : Fin (2 ^ n) => Held m d (leaf n q i) (J i) f g := by
  subst hI
  unfold Held
  simp only [bigSep_sep']
  rw [pointsTo_leaves Finset.univ (m (cenLoc d)) n q, pointsTo_leaves Finset.univ (m (tabLoc d)) n q, pointsTo_leaves Finset.univ (m (docLoc d)) n q,
    pointsTo_leaves Finset.univ (m (negLoc d)) n q, pointsTo_biUnion (ℓ := posLoc d) Finset.univ J hJ, pointsTo_biUnion (ℓ := othLoc d) Finset.univ J hJ]

/-- A core's and a task's part. -/
abbrev coreHeld (d : Dev nD) (c : Fin 2) (f : Buf (Elt F) (posLoc d)) (g : Buf (Elt F) (othLoc d)) : sProp 𝕄 :=
  Held m d (leaf 1 fullShare c) (coreSet c) f g
abbrev taskHeld (d : Dev nD) (c : Fin 2) (i : Fin 16) (f : Buf (Elt F) (posLoc d)) (g : Buf (Elt F) (othLoc d)) : sProp 𝕄 :=
  Held m d (leaf 4 (leaf 1 fullShare c) i) (taskSet c i) f g

theorem held_cores (d : Dev nD) (f : Buf (Elt F) (posLoc d)) (g : Buf (Elt F) (othLoc d)) :
    (Held m d fullShare Finset.univ f g : sProp 𝕄) = bigSep Finset.univ fun c : Fin 2 => coreHeld m d c f g :=
  held_split m d 1 fullShare Finset.univ coreSet cores_cover cores_disjoint f g

theorem held_tasks (d : Dev nD) (c : Fin 2) (f : Buf (Elt F) (posLoc d)) (g : Buf (Elt F) (othLoc d)) :
    (coreHeld m d c f g : sProp 𝕄) = bigSep Finset.univ fun i : Fin 16 => taskHeld m d c i f g :=
  held_split m d 4 (leaf 1 fullShare c) (coreSet c) (taskSet c) (tasks_cover c) (tasks_disjoint c) f g

/-! ## The call's payload -/

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => coreHeld m d (Fin.cast nCore_zero c) (m (posLoc d)) (m (othLoc d))
  dn := fun q d c => match q with | 0 => coreHeld m d (Fin.cast nCore_zero c) (result m d 0) (result m d 1)
  go := fun q d c i => match q with | 0 => taskHeld m d (Fin.cast nCore_zero c) (Fin.cast nSub_zero i) (m (posLoc d)) (m (othLoc d))
  td := fun q d c i => match q with | 0 => taskHeld m d (Fin.cast nCore_zero c) (Fin.cast nSub_zero i) (result m d 0) (result m d 1)
  x := fun _ _ => iprop(emp)

instance P_storable : (P (F := F) m).IsStorable where
  st q d c := match q with
    | 0 => (inferInstance : BI.Storable (upEmb : UEmb _ 𝕄) (coreHeld m d (Fin.cast nCore_zero c) (m (posLoc d)) (m (othLoc d))))
  dn q d c := match q with
    | 0 => (inferInstance : BI.Storable (upEmb : UEmb _ 𝕄) (coreHeld m d (Fin.cast nCore_zero c) (result m d 0) (result m d 1)))
  go q d c i := match q with
    | 0 => (inferInstance : BI.Storable (upEmb : UEmb _ 𝕄) (taskHeld m d (Fin.cast nCore_zero c) (Fin.cast nSub_zero i) (m (posLoc d)) (m (othLoc d))))
  td q d c i := match q with
    | 0 => (inferInstance : BI.Storable (upEmb : UEmb _ 𝕄) (taskHeld m d (Fin.cast nCore_zero c) (Fin.cast nSub_zero i) (result m d 0) (result m d 1)))

/-! ## The tasks' obligation -/

section Launch

variable [FloatOps F]

theorem defs₀_vector (c : Fin τ.nSC) (s : Fin τ.nSub) :
    defs₀ (F := F) (.scVector c s) 0 ()
      = SparseCore.onTile hcore0 hsub0 (fun c s => cc0__body (coords c s)
          cenV (Memref.isWhole_whole _) tabV (Memref.isWhole_whole _) docV (Memref.isWhole_whole _) negV (Memref.isWhole_whole _)
          posV (Memref.isWhole_whole _) othV (Memref.isWhole_whole _) idsV (Memref.isWhole_whole _) cidV (Memref.isWhole_whole _)
          rowV (Memref.isWhole_whole _) cc0_scratch3 cc0_scratch4 cc0_scratch5 cc0_scratch6 cc0_scratch7 cc0_scratch8 cc0_scratch9
          cc0_scratch10 cc0_scratch11 cc0_scratch12 cc0_scratch13 cc0_scratch14) ⟨⟩ c s := rfl

omit [FloatOps F] in
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coords ⟨_, hci.1⟩ ⟨_, hci.2⟩) hF hpre (leaf 4 (leaf 1 fullShare (Fin.cast nCore_zero c)) (Fin.cast nSub_zero i)) O W hO).trans
    (wp_mono frame _ _ fun _ => waits_weaken)

omit [FloatOps F] in
theorem over_cores (Φ : Fin 2 → sProp 𝕄) : (bigSep Finset.univ fun c : Fin ((K (F := F)).nCore 0) => Φ (Fin.cast nCore_zero c)) = bigSep Finset.univ Φ :=
  bigSep_congr fun _ _ => congrArg Φ (Fin.ext rfl)

omit [FloatOps F] in
theorem over_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreHeld m d (Fin.cast nCore_zero c) (m (posLoc d)) (m (othLoc d)) ⊢ |={Set.univ}=> iprop(
      (bigSep Finset.univ fun i : Fin ((K (F := F)).nSub 0) => taskHeld m d (Fin.cast nCore_zero c) (Fin.cast nSub_zero i) (m (posLoc d)) (m (othLoc d)))
      ∗ ((bigSep Finset.univ fun i : Fin ((K (F := F)).nSub 0) => taskHeld m d (Fin.cast nCore_zero c) (Fin.cast nSub_zero i) (result m d 0) (result m d 1))
          -∗ coreHeld m d (Fin.cast nCore_zero c) (result m d 0) (result m d 1)))
  rw [over_tasks (F := F) (fun i => taskHeld m d (Fin.cast nCore_zero c) i (m (posLoc d)) (m (othLoc d))),
    over_tasks (F := F) (fun i => taskHeld m d (Fin.cast nCore_zero c) i (result m d 0) (result m d 1)), ← held_tasks, ← held_tasks]
  iintro H; imodintro
  isplitl [H]; · iexact H
  iintro H; iexact H

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((cenLoc d ↦{fullShare} W main_arg0) ∗ (tabLoc d ↦{fullShare} W main_arg1) ∗ (docLoc d ↦{fullShare} W main_arg2)
          ∗ (negLoc d ↦{fullShare} W main_arg3) ∗ (posLoc d ↦{fullShare} W main_v0_0) ∗ othLoc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) :
    (bigSep Finset.univ fun c : Fin ((K (F := F)).nCore 0) => (P m).st 0 d c) = Held m d fullShare Finset.univ (m (posLoc d)) (m (othLoc d)) :=
  (over_cores (F := F) fun c => coreHeld m d c (m (posLoc d)) (m (othLoc d))).trans (held_cores m d _ _).symm
theorem dn0_eq (d : Dev nD) :
    (bigSep Finset.univ fun c : Fin ((K (F := F)).nCore 0) => (P m).dn 0 d c) = Held m d fullShare Finset.univ (result m d 0) (result m d 1) :=
  (over_cores (F := F) fun c => coreHeld m d c (result m d 0) (result m d 1)).trans (held_cores m d _ _).symm

abbrev FIN (d : Dev nD) : sProp 𝕄 := Held m d fullShare Finset.univ (result m d 0) (result m d 1)

/-- @main on device `d`'s TensorCore: the one call, from the six buffers to the six buffers. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hbufs, Hts, -⟩, -⟩
  iapply ((K (F := F)).wp_run (D (F := F)) 𝒱 (EH := EH) (P := P m) κ d 0) $$ [Hst Hbufs Hb Hts]
  isplitr; · iexact Hctx
  isplitl [Hst]; · iexact Hst
  isplitl [Hbufs]
  · rw [st0_eq]
    iexact Hbufs
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

/-- What the final memory holds. -/
def fq (d : Dev nD) (s' : Phys nD τ sig (Elt F)) : Prop :=
  s'.mem.mem (cenLoc d) = m (cenLoc d) ∧ s'.mem.mem (tabLoc d) = m (tabLoc d) ∧ s'.mem.mem (docLoc d) = m (docLoc d)
    ∧ s'.mem.mem (negLoc d) = m (negLoc d) ∧ s'.mem.mem (posLoc d) = result m d 0 ∧ s'.mem.mem (othLoc d) = result m d 1

omit [FloatOps F] in
/-- A buffer held whole is the memory's. -/
theorem mem_of_held (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  icases (mem_of_held s' (cenLoc d) _) $$ [H0 HSI] with ⟨%h0, HSI⟩; · isplitl [H0] <;> iassumption
  icases (mem_of_held s' (tabLoc d) _) $$ [H1 HSI] with ⟨%h1, HSI⟩; · isplitl [H1] <;> iassumption
  icases (mem_of_held s' (docLoc d) _) $$ [H2 HSI] with ⟨%h2, HSI⟩; · isplitl [H2] <;> iassumption
  icases (mem_of_held s' (negLoc d) _) $$ [H3 HSI] with ⟨%h3, HSI⟩; · isplitl [H3] <;> iassumption
  icases (mem_of_held s' (posLoc d) _) $$ [H4 HSI] with ⟨%h4, HSI⟩; · isplitl [H4] <;> iassumption
  icases (mem_of_held s' (othLoc d) _) $$ [H5 HSI] with ⟨%h5, HSI⟩; · isplitl [H5] <;> iassumption
  ipureintro; exact ⟨h0, h1, h2, h3, h4, h5⟩

/-! ## The program's run -/

def QC : PUnit × MemSt nD τ sig (Elt F) → Prop := fun r =>
  (∀ d : Dev nD, r.2.mem (cenLoc d) = m (cenLoc d) ∧ r.2.mem (tabLoc d) = m (tabLoc d) ∧ r.2.mem (docLoc d) = m (docLoc d)
    ∧ r.2.mem (negLoc d) = m (negLoc d) ∧ r.2.mem (posLoc d) = result m d 0 ∧ r.2.mem (othLoc d) = result m d 1) ∧ r.2.sem = fun _ => 0

/-- The program's run: the inputs unchanged, either result the centers' vectors of its list, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.OfKernelIdeal

end
-- ==== Proof.Range.lean ====
/-
  What the precondition says of the index arrays: every entry of the table is the number of a center, every entry of the
  two lists is the number of a document.
-/
module

public import proofs.«01_k».proof.Pre_in_range
public import Idealize.ShloMosaic.Lib.ReduceAll

@[expose] public section

noncomputable section

namespace Cert.Proof.Range

open Idealize.ShloMosaic Cert.Pre_in_range

/-- The conjunction of two truth values is true of both. -/
theorem both_of_and {p q : BitVec 1} (h : IntOp.andi p q = 1#1) : p = 1#1 ∧ q = 1#1 := IntOp.andi_eq_one.1 h

/-- A truth value's bit is 1 only of `true`. -/
theorem true_of_ofBool {b : Bool} (h : BitVec.ofBool b = 1#1) : b = true := by cases b; · exact absurd h (by decide)
                                                                               · rfl

/-- A word at least 0 and less than `n`, compared as signed numbers, is below `n` as a natural number. -/
theorem below_of_compares {n : ℕ} (hn : n < 2 ^ 31) {w : BitVec 32} (h0 : IntOp.cmpi .sge w 0#32 = 1#1)
    (h1 : IntOp.cmpi .slt w (BitVec.ofNat 32 n) = 1#1) : w.toNat < n := by
  have e0 : (0#32).sle w = true := true_of_ofBool h0
  have e1 : w.slt (BitVec.ofNat 32 n) = true := true_of_ofBool h1
  simp only [BitVec.sle_eq_decide, BitVec.slt_eq_decide, decide_eq_true_eq, BitVec.toInt_eq_toNat_cond, BitVec.toNat_ofNat,
    Nat.reducePow, Nat.reduceMod] at e0 e1
  omega

instance : Subsingleton S_.Idx := ⟨fun a b => funext fun k => k.elim0⟩

variable [Facts] {F : FTy → Type} [FloatOps F]

/-- The ranges, of four arrays the precondition holds of. -/
theorem below_of_pre (x0 : FVec F S65536x128 .f32) (x1 : IVec S1000000 32) (x2 x3 : IVec S4096 32)
    (h : fn x0 x1 x2 x3 = fun _ => 1#1) :
    (∀ i, (x1 i).toNat < 65536) ∧ (∀ i, (x2 i).toNat < 1000000) ∧ ∀ i, (x3 i).toNat < 1000000 := by
  have e := congrFun h fun k => k.elim0
  obtain ⟨e, c6⟩ := both_of_and e
  obtain ⟨e, c5⟩ := both_of_and e
  obtain ⟨e, c4⟩ := both_of_and e
  obtain ⟨e, c3⟩ := both_of_and e
  obtain ⟨c1, c2⟩ := both_of_and e
  exact ⟨fun i => below_of_compares (by decide) (Host.reduce_andi_all _ _ _ _ _ c1 i) (Host.reduce_andi_all _ _ _ _ _ c2 i),
    fun i => below_of_compares (by decide) (Host.reduce_andi_all _ _ _ _ _ c3 i) (Host.reduce_andi_all _ _ _ _ _ c4 i),
    fun i => below_of_compares (by decide) (Host.reduce_andi_all _ _ _ _ _ c5 i) (Host.reduce_andi_all _ _ _ _ _ c6 i)⟩

end Cert.Proof.Range

end
-- ==== Proof.lean ====
/-
  The claims: the kernel's two frames from its run, the reference's from its operations, and the results of both as the one lookup.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.RefOps
public import proofs.«01_k».proof.Proof.RefValue
public import proofs.«01_k».proof.Proof.KernelLaunch
public import proofs.«01_k».proof.Proof.KernelIdealLaunch
public import proofs.«01_k».proof.Proof.Range
public import Idealize.ShloMosaic.Adequacy
public import Idealize.ShloMosaic.Init
public import Idealize.ShloMosaic.Lib.Quiescent

@[expose] public section

noncomputable section

namespace Cert.Proof

open Idealize.ShloMosaic Idealize.SL.Sem

instance pre_facts : Cert.Pre_in_range.Facts := Cert.Pre_in_range.Gen.facts

theorem preOK (m : (ℓ : Loc Cert.Kernel.nD Cert.Kernel.τ Cert.Kernel.sig) → Buf (Elt Bits) ℓ) (h : Cert.Pre_Kernel m) : OfKernel.PreOK m :=
  fun d => Range.below_of_pre _ _ _ _ (h d)

theorem preOK_ideal (m : (ℓ : Loc Cert.KernelIdeal.nD Cert.KernelIdeal.τ Cert.KernelIdeal.sig) → Buf (Elt Ideal) ℓ) (h : Cert.Pre_KernelIdeal m) :
    OfKernelIdeal.PreOK m :=
  fun d => Range.below_of_pre _ _ _ _ (h d)

theorem frame_kernel : Cert.quiescent_Kernel (hKernel := Cert.Kernel.Gen.facts) (hPre_in_range := pre_facts) := fun m g hpre =>
  (θ_run Cert.Kernel.defs _ _).mono
    (fun _ h => ⟨fun d => ⟨(h.1 d).1, (h.1 d).2.1, (h.1 d).2.2.1, (h.1 d).2.2.2.1⟩, h.2⟩)
    (OfKernel.run_main m g (preOK m hpre))

theorem frame_ideal : Cert.quiescent_KernelIdeal (hKernelIdeal := Cert.KernelIdeal.Gen.facts) (hPre_in_range := pre_facts) := fun m g hpre =>
  (θ_run Cert.KernelIdeal.defs _ _).mono
    (fun _ h => ⟨fun d => ⟨(h.1 d).1, (h.1 d).2.1, (h.1 d).2.2.1, (h.1 d).2.2.2.1⟩, h.2⟩)
    (OfKernelIdeal.run_main m g (preOK_ideal m hpre))

/-- The reference declares no semaphore, and its operations write none of its arguments. -/
theorem frame_reference : Cert.quiescent_ReferenceIdeal (hReferenceIdeal := Cert.ReferenceIdeal.Gen.facts) := fun m g _ =>
  (θ_run Cert.ReferenceIdeal.defs _ _).mono
    (fun r h => ⟨fun d => (h d).2, sem_eq_zero_of_no_sems (by decide) r.2⟩)
    (OfReference.run (F := Ideal) m g)

/-- Both programs leave the lookups of the two lists. -/
theorem same_results : Cert.algebraic_KernelIdeal_ReferenceIdeal (hKernelIdeal := Cert.KernelIdeal.Gen.facts) (hReferenceIdeal := Cert.ReferenceIdeal.Gen.facts)
    (hPre_in_range := pre_facts) := fun m g m' g' hpre hargs => by
  refine ⟨fun c => OfKernelIdeal.result m c 0, fun c => OfKernelIdeal.result m c 1, ?_, ?_⟩
  · exact (θ_run Cert.KernelIdeal.defs _ _).mono
      (fun _ h c => ⟨(h.1 c).2.2.2.2.1, (h.1 c).2.2.2.2.2, (h.1 c).1, (h.1 c).2.1, (h.1 c).2.2.1, (h.1 c).2.2.2.1⟩)
      (OfKernelIdeal.run_main m g (preOK_ideal m hpre))
  · refine (θ_run Cert.ReferenceIdeal.defs _ _).mono (fun r h c => ?_) (OfReference.run (F := Ideal) m' g')
    obtain ⟨h0, h1, h2, h3⟩ := hargs c
    obtain ⟨htab, hdoc, hneg⟩ := preOK_ideal m hpre c
    obtain ⟨e53, e54⟩ := OfReference.results_eq (F := Ideal) (StableHlo.launchContents m' c) (OfKernelIdeal.cen m c) (OfKernelIdeal.tab m c) (OfKernelIdeal.doc m c)
      (OfKernelIdeal.neg m c) h0 h1 h2 h3 htab hdoc hneg
    exact ⟨((h c).1 _).trans e53, ((h c).1 _).trans e54, (h c).2⟩

theorem claim : Cert.Claim := ⟨Cert.Kernel.Gen.facts, Cert.KernelIdeal.Gen.facts, Cert.ReferenceIdeal.Gen.facts, Cert.Pre_in_range.Gen.facts,
  frame_kernel, frame_ideal, frame_reference, fun m g _ => frame_reference m g trivial, trivial, same_results⟩

end Cert.Proof

end
